-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x256 : Shape := ⟨2, ![16, 256]⟩
abbrev S1x256 : Shape := ⟨2, ![1, 256]⟩
abbrev S_ : Shape := ⟨0, ![]⟩
abbrev S16 : Shape := ⟨1, ![16]⟩
abbrev S256 : Shape := ⟨1, ![256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S16x256, .f32⟩
  | .local _ .vmem, ⟨3, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_158 : BitVec 32 := 0#32
  let c0_i32_156 : BitVec 32 := 0#32
  let c1_i32_157 : BitVec 32 := 1#32
  let v265 : BitVec 32 := Scalar.muli c0_i32_156 c1_i32_157
  let v266 : BitVec 32 := Scalar.addi c0_i32_158 v265
  v266.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_158 : BitVec 32 := 0#32
  let c1_i32_156 : BitVec 32 := 1#32
  let c1_i32_157 : BitVec 32 := 1#32
  let v265 : BitVec 32 := Scalar.muli c1_i32_156 c1_i32_157
  let v266 : BitVec 32 := Scalar.addi c0_i32_158 v265
  v266.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_158 : BitVec 32 := 0#32
  let c2_i32_156 : BitVec 32 := 2#32
  let c1_i32_157 : BitVec 32 := 1#32
  let v265 : BitVec 32 := Scalar.muli c2_i32_156 c1_i32_157
  let v266 : BitVec 32 := Scalar.addi c0_i32_158 v265
  v266.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_158 : BitVec 32 := 0#32
  let c3_i32_156 : BitVec 32 := 3#32
  let c1_i32_157 : BitVec 32 := 1#32
  let v265 : BitVec 32 := Scalar.muli c3_i32_156 c1_i32_157
  let v266 : BitVec 32 := Scalar.addi c0_i32_158 v265
  v266.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_158 : BitVec 32 := 0#32
  let c4_i32_156 : BitVec 32 := 4#32
  let c1_i32_157 : BitVec 32 := 1#32
  let v265 : BitVec 32 := Scalar.muli c4_i32_156 c1_i32_157
  let v266 : BitVec 32 := Scalar.addi c0_i32_158 v265
  v266.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_158 : BitVec 32 := 0#32
  let c5_i32_156 : BitVec 32 := 5#32
  let c1_i32_157 : BitVec 32 := 1#32
  let v265 : BitVec 32 := Scalar.muli c5_i32_156 c1_i32_157
  let v266 : BitVec 32 := Scalar.addi c0_i32_158 v265
  v266.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_158 : BitVec 32 := 0#32
  let c6_i32_156 : BitVec 32 := 6#32
  let c1_i32_157 : BitVec 32 := 1#32
  let v265 : BitVec 32 := Scalar.muli c6_i32_156 c1_i32_157
  let v266 : BitVec 32 := Scalar.addi c0_i32_158 v265
  v266.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .sgt v2 c7_i32
  let v26 : BitVec 32 := Scalar.extui v25
  let c0_i32_8 : BitVec 32 := 0#32
  let v27 : BitVec 1 := Scalar.cmpi .ne v26 c0_i32_8
  v27

def k0_dev8 : Nat :=
  let c0_i32_158 : BitVec 32 := 0#32
  let c7_i32_156 : BitVec 32 := 7#32
  let c1_i32_157 : BitVec 32 := 1#32
  let v265 : BitVec 32 := Scalar.muli c7_i32_156 c1_i32_157
  let v266 : BitVec 32 := Scalar.addi c0_i32_158 v265
  v266.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .sgt v2 c8_i32
  let v29 : BitVec 32 := Scalar.extui v28
  let c0_i32_9 : BitVec 32 := 0#32
  let v30 : BitVec 1 := Scalar.cmpi .ne v29 c0_i32_9
  v30

def k0_dev9 : Nat :=
  let c0_i32_158 : BitVec 32 := 0#32
  let c8_i32_156 : BitVec 32 := 8#32
  let c1_i32_157 : BitVec 32 := 1#32
  let v265 : BitVec 32 := Scalar.muli c8_i32_156 c1_i32_157
  let v266 : BitVec 32 := Scalar.addi c0_i32_158 v265
  v266.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .sgt v2 c9_i32
  let v32 : BitVec 32 := Scalar.extui v31
  let c0_i32_10 : BitVec 32 := 0#32
  let v33 : BitVec 1 := Scalar.cmpi .ne v32 c0_i32_10
  v33

def k0_dev10 : Nat :=
  let c0_i32_158 : BitVec 32 := 0#32
  let c9_i32_156 : BitVec 32 := 9#32
  let c1_i32_157 : BitVec 32 := 1#32
  let v265 : BitVec 32 := Scalar.muli c9_i32_156 c1_i32_157
  let v266 : BitVec 32 := Scalar.addi c0_i32_158 v265
  v266.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .sgt v2 c10_i32
  let v35 : BitVec 32 := Scalar.extui v34
  let c0_i32_11 : BitVec 32 := 0#32
  let v36 : BitVec 1 := Scalar.cmpi .ne v35 c0_i32_11
  v36

def k0_dev11 : Nat :=
  let c0_i32_158 : BitVec 32 := 0#32
  let c10_i32_156 : BitVec 32 := 10#32
  let c1_i32_157 : BitVec 32 := 1#32
  let v265 : BitVec 32 := Scalar.muli c10_i32_156 c1_i32_157
  let v266 : BitVec 32 := Scalar.addi c0_i32_158 v265
  v266.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .sgt v2 c11_i32
  let v38 : BitVec 32 := Scalar.extui v37
  let c0_i32_12 : BitVec 32 := 0#32
  let v39 : BitVec 1 := Scalar.cmpi .ne v38 c0_i32_12
  v39

def k0_dev12 : Nat :=
  let c0_i32_158 : BitVec 32 := 0#32
  let c11_i32_156 : BitVec 32 := 11#32
  let c1_i32_157 : BitVec 32 := 1#32
  let v265 : BitVec 32 := Scalar.muli c11_i32_156 c1_i32_157
  let v266 : BitVec 32 := Scalar.addi c0_i32_158 v265
  v266.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .sgt v2 c12_i32
  let v41 : BitVec 32 := Scalar.extui v40
  let c0_i32_13 : BitVec 32 := 0#32
  let v42 : BitVec 1 := Scalar.cmpi .ne v41 c0_i32_13
  v42

def k0_dev13 : Nat :=
  let c0_i32_158 : BitVec 32 := 0#32
  let c12_i32_156 : BitVec 32 := 12#32
  let c1_i32_157 : BitVec 32 := 1#32
  let v265 : BitVec 32 := Scalar.muli c12_i32_156 c1_i32_157
  let v266 : BitVec 32 := Scalar.addi c0_i32_158 v265
  v266.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .sgt v2 c13_i32
  let v44 : BitVec 32 := Scalar.extui v43
  let c0_i32_14 : BitVec 32 := 0#32
  let v45 : BitVec 1 := Scalar.cmpi .ne v44 c0_i32_14
  v45

def k0_dev14 : Nat :=
  let c0_i32_158 : BitVec 32 := 0#32
  let c13_i32_156 : BitVec 32 := 13#32
  let c1_i32_157 : BitVec 32 := 1#32
  let v265 : BitVec 32 := Scalar.muli c13_i32_156 c1_i32_157
  let v266 : BitVec 32 := Scalar.addi c0_i32_158 v265
  v266.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .sgt v2 c14_i32
  let v47 : BitVec 32 := Scalar.extui v46
  let c0_i32_15 : BitVec 32 := 0#32
  let v48 : BitVec 1 := Scalar.cmpi .ne v47 c0_i32_15
  v48

def k0_dev15 : Nat :=
  let c0_i32_158 : BitVec 32 := 0#32
  let c14_i32_156 : BitVec 32 := 14#32
  let c1_i32_157 : BitVec 32 := 1#32
  let v265 : BitVec 32 := Scalar.muli c14_i32_156 c1_i32_157
  let v266 : BitVec 32 := Scalar.addi c0_i32_158 v265
  v266.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .sgt v2 c15_i32
  let v50 : BitVec 32 := Scalar.extui v49
  let c0_i32_16 : BitVec 32 := 0#32
  let v51 : BitVec 1 := Scalar.cmpi .ne v50 c0_i32_16
  v51

def k0_dev16 : Nat :=
  let c0_i32_158 : BitVec 32 := 0#32
  let c15_i32_156 : BitVec 32 := 15#32
  let c1_i32_157 : BitVec 32 := 1#32
  let v265 : BitVec 32 := Scalar.muli c15_i32_156 c1_i32_157
  let v266 : BitVec 32 := Scalar.addi c0_i32_158 v265
  v266.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_50 : BitVec 32 := 0#32
  let v103 : BitVec 1 := Scalar.cmpi .slt v2 c0_i32_50
  let v104 : BitVec 32 := Scalar.extui v103
  let c0_i32_51 : BitVec 32 := 0#32
  let v105 : BitVec 1 := Scalar.cmpi .ne v104 c0_i32_51
  v105

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev17 : Nat :=
  let c0_i32_158 : BitVec 32 := 0#32
  let c0_i32_156 : BitVec 32 := 0#32
  let c1_i32_157 : BitVec 32 := 1#32
  let v265 : BitVec 32 := Scalar.muli c0_i32_156 c1_i32_157
  let v266 : BitVec 32 := Scalar.addi c0_i32_158 v265
  v266.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_52 : BitVec 32 := 1#32
  let v106 : BitVec 1 := Scalar.cmpi .slt v2 c1_i32_52
  let v107 : BitVec 32 := Scalar.extui v106
  let c0_i32_53 : BitVec 32 := 0#32
  let v108 : BitVec 1 := Scalar.cmpi .ne v107 c0_i32_53
  v108

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev18 : Nat :=
  let c0_i32_158 : BitVec 32 := 0#32
  let c1_i32_156 : BitVec 32 := 1#32
  let c1_i32_157 : BitVec 32 := 1#32
  let v265 : BitVec 32 := Scalar.muli c1_i32_156 c1_i32_157
  let v266 : BitVec 32 := Scalar.addi c0_i32_158 v265
  v266.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_54 : BitVec 32 := 2#32
  let v109 : BitVec 1 := Scalar.cmpi .slt v2 c2_i32_54
  let v110 : BitVec 32 := Scalar.extui v109
  let c0_i32_55 : BitVec 32 := 0#32
  let v111 : BitVec 1 := Scalar.cmpi .ne v110 c0_i32_55
  v111

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev19 : Nat :=
  let c0_i32_158 : BitVec 32 := 0#32
  let c2_i32_156 : BitVec 32 := 2#32
  let c1_i32_157 : BitVec 32 := 1#32
  let v265 : BitVec 32 := Scalar.muli c2_i32_156 c1_i32_157
  let v266 : BitVec 32 := Scalar.addi c0_i32_158 v265
  v266.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_56 : BitVec 32 := 3#32
  let v112 : BitVec 1 := Scalar.cmpi .slt v2 c3_i32_56
  let v113 : BitVec 32 := Scalar.extui v112
  let c0_i32_57 : BitVec 32 := 0#32
  let v114 : BitVec 1 := Scalar.cmpi .ne v113 c0_i32_57
  v114

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev20 : Nat :=
  let c0_i32_158 : BitVec 32 := 0#32
  let c3_i32_156 : BitVec 32 := 3#32
  let c1_i32_157 : BitVec 32 := 1#32
  let v265 : BitVec 32 := Scalar.muli c3_i32_156 c1_i32_157
  let v266 : BitVec 32 := Scalar.addi c0_i32_158 v265
  v266.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_58 : BitVec 32 := 4#32
  let v115 : BitVec 1 := Scalar.cmpi .slt v2 c4_i32_58
  let v116 : BitVec 32 := Scalar.extui v115
  let c0_i32_59 : BitVec 32 := 0#32
  let v117 : BitVec 1 := Scalar.cmpi .ne v116 c0_i32_59
  v117

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev21 : Nat :=
  let c0_i32_158 : BitVec 32 := 0#32
  let c4_i32_156 : BitVec 32 := 4#32
  let c1_i32_157 : BitVec 32 := 1#32
  let v265 : BitVec 32 := Scalar.muli c4_i32_156 c1_i32_157
  let v266 : BitVec 32 := Scalar.addi c0_i32_158 v265
  v266.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_60 : BitVec 32 := 5#32
  let v118 : BitVec 1 := Scalar.cmpi .slt v2 c5_i32_60
  let v119 : BitVec 32 := Scalar.extui v118
  let c0_i32_61 : BitVec 32 := 0#32
  let v120 : BitVec 1 := Scalar.cmpi .ne v119 c0_i32_61
  v120

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev22 : Nat :=
  let c0_i32_158 : BitVec 32 := 0#32
  let c5_i32_156 : BitVec 32 := 5#32
  let c1_i32_157 : BitVec 32 := 1#32
  let v265 : BitVec 32 := Scalar.muli c5_i32_156 c1_i32_157
  let v266 : BitVec 32 := Scalar.addi c0_i32_158 v265
  v266.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_62 : BitVec 32 := 6#32
  let v121 : BitVec 1 := Scalar.cmpi .slt v2 c6_i32_62
  let v122 : BitVec 32 := Scalar.extui v121
  let c0_i32_63 : BitVec 32 := 0#32
  let v123 : BitVec 1 := Scalar.cmpi .ne v122 c0_i32_63
  v123

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev23 : Nat :=
  let c0_i32_158 : BitVec 32 := 0#32
  let c6_i32_156 : BitVec 32 := 6#32
  let c1_i32_157 : BitVec 32 := 1#32
  let v265 : BitVec 32 := Scalar.muli c6_i32_156 c1_i32_157
  let v266 : BitVec 32 := Scalar.addi c0_i32_158 v265
  v266.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_64 : BitVec 32 := 7#32
  let v124 : BitVec 1 := Scalar.cmpi .slt v2 c7_i32_64
  let v125 : BitVec 32 := Scalar.extui v124
  let c0_i32_65 : BitVec 32 := 0#32
  let v126 : BitVec 1 := Scalar.cmpi .ne v125 c0_i32_65
  v126

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev24 : Nat :=
  let c0_i32_158 : BitVec 32 := 0#32
  let c7_i32_156 : BitVec 32 := 7#32
  let c1_i32_157 : BitVec 32 := 1#32
  let v265 : BitVec 32 := Scalar.muli c7_i32_156 c1_i32_157
  let v266 : BitVec 32 := Scalar.addi c0_i32_158 v265
  v266.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_66 : BitVec 32 := 8#32
  let v127 : BitVec 1 := Scalar.cmpi .slt v2 c8_i32_66
  let v128 : BitVec 32 := Scalar.extui v127
  let c0_i32_67 : BitVec 32 := 0#32
  let v129 : BitVec 1 := Scalar.cmpi .ne v128 c0_i32_67
  v129

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev25 : Nat :=
  let c0_i32_158 : BitVec 32 := 0#32
  let c8_i32_156 : BitVec 32 := 8#32
  let c1_i32_157 : BitVec 32 := 1#32
  let v265 : BitVec 32 := Scalar.muli c8_i32_156 c1_i32_157
  let v266 : BitVec 32 := Scalar.addi c0_i32_158 v265
  v266.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_68 : BitVec 32 := 9#32
  let v130 : BitVec 1 := Scalar.cmpi .slt v2 c9_i32_68
  let v131 : BitVec 32 := Scalar.extui v130
  let c0_i32_69 : BitVec 32 := 0#32
  let v132 : BitVec 1 := Scalar.cmpi .ne v131 c0_i32_69
  v132

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev26 : Nat :=
  let c0_i32_158 : BitVec 32 := 0#32
  let c9_i32_156 : BitVec 32 := 9#32
  let c1_i32_157 : BitVec 32 := 1#32
  let v265 : BitVec 32 := Scalar.muli c9_i32_156 c1_i32_157
  let v266 : BitVec 32 := Scalar.addi c0_i32_158 v265
  v266.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_70 : BitVec 32 := 10#32
  let v133 : BitVec 1 := Scalar.cmpi .slt v2 c10_i32_70
  let v134 : BitVec 32 := Scalar.extui v133
  let c0_i32_71 : BitVec 32 := 0#32
  let v135 : BitVec 1 := Scalar.cmpi .ne v134 c0_i32_71
  v135

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev27 : Nat :=
  let c0_i32_158 : BitVec 32 := 0#32
  let c10_i32_156 : BitVec 32 := 10#32
  let c1_i32_157 : BitVec 32 := 1#32
  let v265 : BitVec 32 := Scalar.muli c10_i32_156 c1_i32_157
  let v266 : BitVec 32 := Scalar.addi c0_i32_158 v265
  v266.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_72 : BitVec 32 := 11#32
  let v136 : BitVec 1 := Scalar.cmpi .slt v2 c11_i32_72
  let v137 : BitVec 32 := Scalar.extui v136
  let c0_i32_73 : BitVec 32 := 0#32
  let v138 : BitVec 1 := Scalar.cmpi .ne v137 c0_i32_73
  v138

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev28 : Nat :=
  let c0_i32_158 : BitVec 32 := 0#32
  let c11_i32_156 : BitVec 32 := 11#32
  let c1_i32_157 : BitVec 32 := 1#32
  let v265 : BitVec 32 := Scalar.muli c11_i32_156 c1_i32_157
  let v266 : BitVec 32 := Scalar.addi c0_i32_158 v265
  v266.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_74 : BitVec 32 := 12#32
  let v139 : BitVec 1 := Scalar.cmpi .slt v2 c12_i32_74
  let v140 : BitVec 32 := Scalar.extui v139
  let c0_i32_75 : BitVec 32 := 0#32
  let v141 : BitVec 1 := Scalar.cmpi .ne v140 c0_i32_75
  v141

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev29 : Nat :=
  let c0_i32_158 : BitVec 32 := 0#32
  let c12_i32_156 : BitVec 32 := 12#32
  let c1_i32_157 : BitVec 32 := 1#32
  let v265 : BitVec 32 := Scalar.muli c12_i32_156 c1_i32_157
  let v266 : BitVec 32 := Scalar.addi c0_i32_158 v265
  v266.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_76 : BitVec 32 := 13#32
  let v142 : BitVec 1 := Scalar.cmpi .slt v2 c13_i32_76
  let v143 : BitVec 32 := Scalar.extui v142
  let c0_i32_77 : BitVec 32 := 0#32
  let v144 : BitVec 1 := Scalar.cmpi .ne v143 c0_i32_77
  v144

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev30 : Nat :=
  let c0_i32_158 : BitVec 32 := 0#32
  let c13_i32_156 : BitVec 32 := 13#32
  let c1_i32_157 : BitVec 32 := 1#32
  let v265 : BitVec 32 := Scalar.muli c13_i32_156 c1_i32_157
  let v266 : BitVec 32 := Scalar.addi c0_i32_158 v265
  v266.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_78 : BitVec 32 := 14#32
  let v145 : BitVec 1 := Scalar.cmpi .slt v2 c14_i32_78
  let v146 : BitVec 32 := Scalar.extui v145
  let c0_i32_79 : BitVec 32 := 0#32
  let v147 : BitVec 1 := Scalar.cmpi .ne v146 c0_i32_79
  v147

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev31 : Nat :=
  let c0_i32_158 : BitVec 32 := 0#32
  let c14_i32_156 : BitVec 32 := 14#32
  let c1_i32_157 : BitVec 32 := 1#32
  let v265 : BitVec 32 := Scalar.muli c14_i32_156 c1_i32_157
  let v266 : BitVec 32 := Scalar.addi c0_i32_158 v265
  v266.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_80 : BitVec 32 := 15#32
  let v148 : BitVec 1 := Scalar.cmpi .slt v2 c15_i32_80
  let v149 : BitVec 32 := Scalar.extui v148
  let c0_i32_81 : BitVec 32 := 0#32
  let v150 : BitVec 1 := Scalar.cmpi .ne v149 c0_i32_81
  v150

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  ![v2.toNat, 0]
def k0_dev32 : Nat :=
  let c0_i32_158 : BitVec 32 := 0#32
  let c15_i32_156 : BitVec 32 := 15#32
  let c1_i32_157 : BitVec 32 := 1#32
  let v265 : BitVec 32 := Scalar.muli c15_i32_156 c1_i32_157
  let v266 : BitVec 32 := Scalar.addi c0_i32_158 v265
  v266.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_123 : BitVec 32 := 0#32
  let v217 : BitVec 1 := Scalar.cmpi .slt v2 c0_i32_123
  let v218 : BitVec 32 := Scalar.extui v217
  let c0_i32_124 : BitVec 32 := 0#32
  let v219 : BitVec 1 := Scalar.cmpi .ne v218 c0_i32_124
  v219

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_125 : BitVec 32 := 1#32
  let v220 : BitVec 1 := Scalar.cmpi .slt v2 c1_i32_125
  let v221 : BitVec 32 := Scalar.extui v220
  let c0_i32_126 : BitVec 32 := 0#32
  let v222 : BitVec 1 := Scalar.cmpi .ne v221 c0_i32_126
  v222

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_127 : BitVec 32 := 2#32
  let v223 : BitVec 1 := Scalar.cmpi .slt v2 c2_i32_127
  let v224 : BitVec 32 := Scalar.extui v223
  let c0_i32_128 : BitVec 32 := 0#32
  let v225 : BitVec 1 := Scalar.cmpi .ne v224 c0_i32_128
  v225

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_129 : BitVec 32 := 3#32
  let v226 : BitVec 1 := Scalar.cmpi .slt v2 c3_i32_129
  let v227 : BitVec 32 := Scalar.extui v226
  let c0_i32_130 : BitVec 32 := 0#32
  let v228 : BitVec 1 := Scalar.cmpi .ne v227 c0_i32_130
  v228

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_131 : BitVec 32 := 4#32
  let v229 : BitVec 1 := Scalar.cmpi .slt v2 c4_i32_131
  let v230 : BitVec 32 := Scalar.extui v229
  let c0_i32_132 : BitVec 32 := 0#32
  let v231 : BitVec 1 := Scalar.cmpi .ne v230 c0_i32_132
  v231

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_133 : BitVec 32 := 5#32
  let v232 : BitVec 1 := Scalar.cmpi .slt v2 c5_i32_133
  let v233 : BitVec 32 := Scalar.extui v232
  let c0_i32_134 : BitVec 32 := 0#32
  let v234 : BitVec 1 := Scalar.cmpi .ne v233 c0_i32_134
  v234

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_135 : BitVec 32 := 6#32
  let v235 : BitVec 1 := Scalar.cmpi .slt v2 c6_i32_135
  let v236 : BitVec 32 := Scalar.extui v235
  let c0_i32_136 : BitVec 32 := 0#32
  let v237 : BitVec 1 := Scalar.cmpi .ne v236 c0_i32_136
  v237

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v238 : BitVec 1 := Scalar.cmpi .slt v2 c7_i32_137
  let v239 : BitVec 32 := Scalar.extui v238
  let c0_i32_138 : BitVec 32 := 0#32
  let v240 : BitVec 1 := Scalar.cmpi .ne v239 c0_i32_138
  v240

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_139 : BitVec 32 := 8#32
  let v241 : BitVec 1 := Scalar.cmpi .slt v2 c8_i32_139
  let v242 : BitVec 32 := Scalar.extui v241
  let c0_i32_140 : BitVec 32 := 0#32
  let v243 : BitVec 1 := Scalar.cmpi .ne v242 c0_i32_140
  v243

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_141 : BitVec 32 := 9#32
  let v244 : BitVec 1 := Scalar.cmpi .slt v2 c9_i32_141
  let v245 : BitVec 32 := Scalar.extui v244
  let c0_i32_142 : BitVec 32 := 0#32
  let v246 : BitVec 1 := Scalar.cmpi .ne v245 c0_i32_142
  v246

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_143 : BitVec 32 := 10#32
  let v247 : BitVec 1 := Scalar.cmpi .slt v2 c10_i32_143
  let v248 : BitVec 32 := Scalar.extui v247
  let c0_i32_144 : BitVec 32 := 0#32
  let v249 : BitVec 1 := Scalar.cmpi .ne v248 c0_i32_144
  v249

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_145 : BitVec 32 := 11#32
  let v250 : BitVec 1 := Scalar.cmpi .slt v2 c11_i32_145
  let v251 : BitVec 32 := Scalar.extui v250
  let c0_i32_146 : BitVec 32 := 0#32
  let v252 : BitVec 1 := Scalar.cmpi .ne v251 c0_i32_146
  v252

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_147 : BitVec 32 := 12#32
  let v253 : BitVec 1 := Scalar.cmpi .slt v2 c12_i32_147
  let v254 : BitVec 32 := Scalar.extui v253
  let c0_i32_148 : BitVec 32 := 0#32
  let v255 : BitVec 1 := Scalar.cmpi .ne v254 c0_i32_148
  v255

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_149 : BitVec 32 := 13#32
  let v256 : BitVec 1 := Scalar.cmpi .slt v2 c13_i32_149
  let v257 : BitVec 32 := Scalar.extui v256
  let c0_i32_150 : BitVec 32 := 0#32
  let v258 : BitVec 1 := Scalar.cmpi .ne v257 c0_i32_150
  v258

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_151 : BitVec 32 := 14#32
  let v259 : BitVec 1 := Scalar.cmpi .slt v2 c14_i32_151
  let v260 : BitVec 32 := Scalar.extui v259
  let c0_i32_152 : BitVec 32 := 0#32
  let v261 : BitVec 1 := Scalar.cmpi .ne v260 c0_i32_152
  v261

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_153 : BitVec 32 := 15#32
  let v262 : BitVec 1 := Scalar.cmpi .slt v2 c15_i32_153
  let v263 : BitVec 32 := Scalar.extui v262
  let c0_i32_154 : BitVec 32 := 0#32
  let v264 : BitVec 1 := Scalar.cmpi .ne v263 c0_i32_154
  v264

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_158 : BitVec 32 := 0#32
  ![v2.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x256 : Shape := ⟨2, ![4096, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S_, .f32⟩
  | .hbm, ⟨3, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Loop.lean ====
/-
# Unrolled loops over the devices, one guarded step per device

The kernel body runs several loops over the sixteen devices, unrolled: step `j` does its work only if a condition on
`j` and on the device's own number holds. This module states such a loop once: the members still `ahead` of step `j`,
the members `behind` it, what they hold (`loopAt`), and the rule for one guarded step (`loop_step`), from which every
loop of the body is a chain of sixteen steps (`wp_chain`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The resource algebra of the proof: the pipeline library's copy of the rounds algebra, and the scan's own, whose duties
    are named by devices. -/
abbrev UB : Type := Rounds.URounds (GSem nD τ sig) (Dev nD)
abbrev UU : Type := UR sig nD τ × UB

/-! ## The members ahead of a step and behind it -/

section Sets

variable {n : ℕ} (p : Fin n → Prop) [DecidablePred p]

/-- The members satisfying `p` that step `j` and the later steps are for. -/
def ahead (j : ℕ) : Finset (Fin n) := Finset.univ.filter fun i => j ≤ i.val ∧ p i

/-- The members satisfying `p` that the steps before `j` were for. -/
def behind (j : ℕ) : Finset (Fin n) := Finset.univ.filter fun i => i.val < j ∧ p i

theorem mem_ahead {j : ℕ} {i : Fin n} : Iff (i ∈ ahead p j) (j ≤ i.val ∧ p i) := by simp [ahead]

theorem mem_behind {j : ℕ} {i : Fin n} : Iff (i ∈ behind p j) (i.val < j ∧ p i) := by simp [behind]

/-- Before the first step every member is ahead. -/
theorem ahead_zero : ahead p 0 = Finset.univ.filter p := by ext i; simp [ahead]

/-- Before the first step no member is behind. -/
theorem behind_zero : behind p 0 = ∅ := by ext i; simp [behind]

/-- After the last step no member is ahead. -/
theorem ahead_last : ahead p n = ∅ := by ext i; simp [ahead]

/-- After the last step every member is behind. -/
theorem behind_last : behind p n = Finset.univ.filter p := by ext i; simp [behind]

theorem notMem_ahead_succ (j : Fin n) : j ∉ ahead p (j.val + 1) := by simp [ahead]

theorem notMem_behind (j : Fin n) : j ∉ behind p j.val := by simp [behind]

/-- A member whose step has come leaves those ahead. -/
theorem ahead_of_pos (j : Fin n) (h : p j) : ahead p j.val = insert j (ahead p (j.val + 1)) := by
  ext i
  rw [Finset.mem_insert, mem_ahead, mem_ahead]
  constructor
  · rintro ⟨h1, h2⟩
    rcases Nat.lt_or_ge j.val i.val with h3 | h3
    · exact .inr ⟨h3, h2⟩
    · exact .inl (Fin.ext (by omega))
  · rintro (rfl | ⟨h1, h2⟩)
    · exact ⟨le_rfl, h⟩
    · exact ⟨by omega, h2⟩

/-- and joins those behind. -/
theorem behind_of_pos (j : Fin n) (h : p j) : behind p (j.val + 1) = insert j (behind p j.val) := by
  ext i
  rw [Finset.mem_insert, mem_behind, mem_behind]
  constructor
  · rintro ⟨h1, h2⟩
    rcases Nat.lt_or_ge i.val j.val with h3 | h3
    · exact .inr ⟨h3, h2⟩
    · exact .inl (Fin.ext (by omega))
  · rintro (rfl | ⟨h1, h2⟩)
    · exact ⟨Nat.lt_succ_self _, h⟩
    · exact ⟨by omega, h2⟩

/-- A step that is for no member changes neither set. -/
theorem ahead_of_neg (j : Fin n) (h : ¬p j) : ahead p j.val = ahead p (j.val + 1) := by
  ext i
  rw [mem_ahead, mem_ahead]
  refine ⟨fun ⟨h1, h2⟩ => ⟨?_, h2⟩, fun ⟨h1, h2⟩ => ⟨by omega, h2⟩⟩
  rcases Nat.lt_or_ge j.val i.val with h3 | h3
  · exact h3
  · exact absurd ((Fin.ext (by omega) : i = j) ▸ h2) h

theorem behind_of_neg (j : Fin n) (h : ¬p j) : behind p (j.val + 1) = behind p j.val := by
  ext i
  rw [mem_behind, mem_behind]
  refine ⟨fun ⟨h1, h2⟩ => ⟨?_, h2⟩, fun ⟨h1, h2⟩ => ⟨by omega, h2⟩⟩
  rcases Nat.lt_or_ge i.val j.val with h3 | h3
  · exact h3
  · exact absurd ((Fin.ext (by omega) : i = j) ▸ h2) h

end Sets

/-! ## Conjunctions over sets of members -/

section Conj

variable {M : Type} [URA M] {I : Type} [DecidableEq I]

/-- A conjunction over a set with one member put in, as that member's part and the rest's. -/
theorem bigSep_ins {s : Finset I} {i : I} (h : i ∉ s) {Φ : I → sProp M} : bigSep (insert i s) Φ = iprop(Φ i ∗ bigSep s Φ) :=
  bigSep_insert h

/-- A conjunction over two sets with no common member, as the two sets' parts. -/
theorem bigSep_two {s t : Finset I} (h : Disjoint s t) {Φ : I → sProp M} : bigSep (s ∪ t) Φ = iprop(bigSep s Φ ∗ bigSep t Φ) :=
  bigSep_union h

/-- A conjunction over everything, as the part of the members satisfying `p` and the part of those not. -/
theorem bigSep_univ_by [Fintype I] (p : I → Prop) [DecidablePred p] (Φ : I → sProp M) :
    bigSep Finset.univ Φ = iprop(bigSep (Finset.univ.filter p) Φ ∗ bigSep (Finset.univ.filter fun i => ¬p i) Φ) := by
  rw [← bigSep_two (Finset.disjoint_filter_filter_not _ _ _), Finset.filter_union_filter_not_eq]

end Conj

/-! ## The rule for one guarded step -/

section Rule

variable {F : FTy → Type} [FloatOps F]

local notation "𝕄" => MT nD τ sig Unit (Elt F) ℕ UU ℕ

variable {n : ℕ} (p : Fin n → Prop) [DecidablePred p]

/-- A loop before step `j`: what the loop carries (`X j`), what each member ahead still holds (`Φ`), and what each
    member behind has become (`Ψ`). -/
def loopAt (X : ℕ → sProp 𝕄) (Φ Ψ : Fin n → sProp 𝕄) (j : ℕ) : sProp 𝕄 := iprop(X j ∗ bigSep (ahead p j) Φ ∗ bigSep (behind p j) Ψ)

/-- A step whose member satisfies `p`, taken apart: the member's part comes out of those ahead; -/
theorem loopAt_open (X : ℕ → sProp 𝕄) (Φ Ψ : Fin n → sProp 𝕄) (j : Fin n) (h : p j) :
    loopAt p X Φ Ψ j.val ⊢ iprop((X j.val ∗ Φ j) ∗ bigSep (ahead p (j.val + 1)) Φ ∗ bigSep (behind p j.val) Ψ) := by
  unfold loopAt
  rw [ahead_of_pos p j h, bigSep_ins (notMem_ahead_succ p j)]
  iintro ⟨HX, ⟨Hj, Ha⟩, Hb⟩
  isplitl [HX Hj]; · isplitl [HX] <;> iassumption
  isplitl [Ha] <;> iassumption

/-- and goes, transformed, to those behind. -/
theorem loopAt_shut (X : ℕ → sProp 𝕄) (Φ Ψ : Fin n → sProp 𝕄) (j : Fin n) (h : p j) :
    iprop((X (j.val + 1) ∗ Ψ j) ∗ bigSep (ahead p (j.val + 1)) Φ ∗ bigSep (behind p j.val) Ψ) ⊢ loopAt p X Φ Ψ (j.val + 1) := by
  unfold loopAt
  rw [behind_of_pos p j h, bigSep_ins (notMem_behind p j)]
  iintro ⟨⟨HX, Hj⟩, Ha, Hb⟩
  isplitl [HX]; · iexact HX
  isplitl [Ha]; · iexact Ha
  isplitl [Hj] <;> iassumption

/-- A step that is for no member moves the loop on if it moves on what the loop carries. -/
theorem loopAt_skip (X : ℕ → sProp 𝕄) (Φ Ψ : Fin n → sProp 𝕄) (j : Fin n) (h : ¬p j) (hX : X j.val ⊢ X (j.val + 1)) :
    loopAt p X Φ Ψ j.val ⊢ loopAt p X Φ Ψ (j.val + 1) := by
  unfold loopAt
  rw [behind_of_neg p j h, ← ahead_of_neg p j h]
  exact sep_mono_left hX

/-- A loop before its first step, from what it carries and every member's part. -/
theorem loopAt_intro (X : ℕ → sProp 𝕄) (Φ Ψ : Fin n → sProp 𝕄) : iprop(X 0 ∗ bigSep (Finset.univ.filter p) Φ) ⊢ loopAt p X Φ Ψ 0 := by
  unfold loopAt
  rw [ahead_zero, behind_zero, bigSep_empty]
  iintro ⟨HX, Ha⟩
  isplitl [HX]; · iexact HX
  isplitl [Ha]; · iexact Ha
  iempintro

/-- A loop after its last step: what it carries and what every member has become. -/
theorem loopAt_elim (X : ℕ → sProp 𝕄) (Φ Ψ : Fin n → sProp 𝕄) : loopAt p X Φ Ψ n ⊢ iprop(X n ∗ bigSep (Finset.univ.filter p) Ψ) := by
  unfold loopAt
  rw [behind_last]
  iintro ⟨HX, -, Hb⟩
  isplitl [HX] <;> iassumption

variable {defs : Defs nD τ sig (Elt F) Λ₀} (𝒱 : Variants) (c : Dev nD) (E : Set ℕ)

/-- One guarded step of a loop: if its condition `b` says whether the step's member satisfies `p`, and the guarded
    operation takes the member's part from what it was (`Φ`) to what it becomes (`Ψ`), the step takes the loop from
    step `j` to step `j + 1`, whatever else (`R`) is held. -/
theorem loop_step (X : ℕ → sProp 𝕄) (Φ Ψ : Fin n → sProp 𝕄) (j : Fin n) {j' : ℕ} (hj : j.val = j') {b : BitVec 1} (hb : Iff (b = 1#1) (p j))
    {yes : b = 1#1 → Prog (TpuEff nD τ sig (Elt F) Λ₀ .tc) PUnit}
    (hX : ¬p j → X j.val ⊢ X (j.val + 1))
    (hy : p j → ∀ h, iprop(X j.val ∗ Φ j) ⊢ wp frame (wpE defs 𝒱 (c : Thread nD τ) none) E (yes h) fun _ => iprop(X (j.val + 1) ∗ Ψ j))
    (R : sProp 𝕄) :
    iprop(loopAt p X Φ Ψ j' ∗ R)
      ⊢ wp frame (wpE defs 𝒱 (c : Thread nD τ) none) E (if h : b = 1#1 then yes h else pure ⟨⟩) fun _ => iprop(loopAt p X Φ Ψ (j' + 1) ∗ R) := by
  subst hj
  by_cases h : b = 1#1
  · have hp := hb.mp h
    rw [dif_pos h]
    exact (sep_mono_left (loopAt_open p X Φ Ψ j hp)).trans (sep_assoc.1.trans ((sep_mono_left (hy hp h)).trans
      ((wp_frame_r _ _ _).trans (wp_mono _ _ _ fun _ => sep_assoc.2.trans (sep_mono_left (loopAt_shut p X Φ Ψ j hp))))))
  · have hp : ¬p j := fun h' => h (hb.mpr h')
    rw [dif_neg h]
    exact (sep_mono_left (loopAt_skip p X Φ Ψ j hp (hX hp))).trans (le_wp_ret _ _ _ PUnit.unit fun _ => iprop(loopAt p X Φ Ψ (j.val + 1) ∗ R))

/-- Two program fragments in sequence, the first returning nothing. -/
theorem wp_chain {A B : sProp 𝕄} {α : Type} {Q : α → sProp 𝕄} {q : Prog (TpuEff nD τ sig (Elt F) Λ₀ .tc) PUnit}
    {k : PUnit → Prog (TpuEff nD τ sig (Elt F) Λ₀ .tc) α}
    (h : A ⊢ wp frame (wpE defs 𝒱 (c : Thread nD τ) none) E q fun _ => B)
    (hk : B ⊢ wp frame (wpE defs 𝒱 (c : Thread nD τ) none) E (k ⟨⟩) Q) :
    A ⊢ wp frame (wpE defs 𝒱 (c : Thread nD τ) none) E (q >>= k) Q := by
  rw [wp_bind]
  exact h.trans (wp_mono _ _ _ fun _ => hk)

/-- Two program fragments in sequence, the second reading what the first returns. -/
theorem wp_chain_val {A : sProp 𝕄} {α β : Type} {B : β → sProp 𝕄} {Q : α → sProp 𝕄} {q : Prog (TpuEff nD τ sig (Elt F) Λ₀ .tc) β}
    {k : β → Prog (TpuEff nD τ sig (Elt F) Λ₀ .tc) α}
    (h : A ⊢ wp frame (wpE defs 𝒱 (c : Thread nD τ) none) E q B)
    (hk : ∀ v, B v ⊢ wp frame (wpE defs 𝒱 (c : Thread nD τ) none) E (k v) Q) :
    A ⊢ wp frame (wpE defs 𝒱 (c : Thread nD τ) none) E (q >>= k) Q := by
  rw [wp_bind]
  exact h.trans (wp_mono _ _ _ hk)

end Rule

end Cert.Scan

end
-- ==== Proof.Arrays.lean ====
/-
# The buffers of one device and what they come to hold

Device `c` holds a block `x` of 256 rows. It sums the block's columns into a one-row buffer (`totAt`), and sends that row
to every later device, where it lands as row `c` of a sixteen-row buffer. So row `i` of that buffer on any device `d > i`
comes to hold device `i`'s column sums: the same array `commAt` on every device, of which device `d` fills the rows below
`d`. The result (`outAt`) is the prefix sums of the block plus the sum of those rows.
-/
module

public import proofs.«01_k».proof.Proof.Loop
public import proofs.«01_k».proof.Proof.Gen.KernelIdeal.Points
public import Idealize.ShloMosaic.Lib.ViewIndex

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The buffers -/

/-- The argument, the result's staging buffer, the copy of the argument, the sixteen-row buffer, the one-row buffer. -/
abbrev argM : Memref sig .tc .hbm S256x256 .f32 := Memref.whole main_arg0
abbrev outM : Memref sig .tc .vmem S256x256 .f32 := Memref.whole cc0_stg0_0
abbrev xM : Memref sig .tc .vmem S256x256 .f32 := Memref.whole cc0_scratch0
abbrev commM : Memref sig .tc .vmem S16x256 .f32 := Memref.whole cc0_scratch1
abbrev totM : Memref sig .tc .vmem S1x256 .f32 := Memref.whole cc0_scratch2

/-- Row `i` lies in the sixteen-row buffer. -/
theorem row_inb (i : Dev nD) : ∀ a, (![i.val, 0] : Fin 2 → ℕ) a + S1x256.size a ≤ S16x256.size a := by
  revert i; decide

/-- Row `i` of the sixteen-row buffer. -/
abbrev rowR (i : Dev nD) : Rect S16x256 := Rect.unit (s := S16x256) ![i.val, 0] S1x256.size (row_inb i)
abbrev rowM (i : Dev nD) : Memref sig .tc .vmem S1x256 .f32 := commM.slice (rowR i) (fun _ => rfl)

/-! ## What they come to hold -/

variable (m : (ℓ : Loc nD τ sig) → Buf (Elt F) ℓ)

/-- Device `c`'s block of the argument. -/
def xAt (c : Dev nD) : Vec F S256x256 .f32 := m ((c : Thread nD τ).loc main_arg0)

/-- Its column sums. -/
def totAt (c : Dev nD) : Vec F S1x256 .f32 := k0_pay1 (xAt m c)

/-- The index in a single row of an index in the sixteen rows. -/
def colOf (j : S16x256.Idx) : S1x256.Idx := fun a => ⟨if a.val = 0 then 0 else (j a).val, by
  have h : ∀ a : Fin 2, 0 < S1x256.size a ∧ (a.val ≠ 0 → S16x256.size a ≤ S1x256.size a) := by decide
  split
  · exact (h a).1
  · exact lt_of_lt_of_le (j a).isLt ((h a).2 (by assumption))⟩

/-- The row of an index in the sixteen rows, as the device it belongs to. -/
def rowOf (j : S16x256.Idx) : Dev nD := ⟨(j 0).val, (j 0).isLt⟩

/-- The sixteen rows, row `i` the column sums of device `i`. -/
def commAt : Vec F S16x256 .f32 := fun j => totAt m (rowOf j) (colOf j)

/-- Device `c`'s number as the kernel computes it. -/
def numW (c : Dev nD) : BitVec 32 := Scalar.remsi (Scalar.divsi (Dev.word c) 1#32) 16#32

/-- Device `c`'s result: the prefix sums of its block plus the sum of the rows of the devices before it. -/
def outAt (c : Dev nD) : Vec F S256x256 .f32 := k0_pay4 (k0_pay2 (xAt m c)) (k0_pay3 (numW c) (commAt m))

/-! ## The sixteen rows as separate pieces -/

/-- The indices of row `i`. -/
def rowSet (i : Dev nD) : Finset S16x256.Idx := (rowM i).view.set

/-- An index is in row `i` exactly if its first coordinate is `i`. -/
theorem mem_row (i : Dev nD) (j : S16x256.Idx) : Iff (j ∈ rowSet i) (rowOf j = i) := by
  have hs : rowSet i = (rowR i).set := View.set_slice_whole cc0_scratch1 (rowR i)
  rw [hs, Rect.mem_set_unit]
  have h1 : (j 1).val < 256 := (j 1).isLt
  constructor
  · intro h
    have := h 0
    exact Fin.ext (Nat.le_antisymm (Nat.le_of_lt_succ (h 0).2) (h 0).1)
  · intro h a
    have h0 : (j 0).val = i.val := congrArg Fin.val h
    match a with
    | ⟨0, _⟩ => exact ⟨h0.ge, h0 ▸ Nat.lt_succ_self _⟩
    | ⟨1, _⟩ => exact ⟨Nat.zero_le _, by show (j 1).val < 0 + 256; omega⟩

/-- Two rows share no index; -/
theorem row_disjoint (i i' : Dev nD) (h : i ≠ i') : Disjoint (rowSet i) (rowSet i') := by
  rw [Finset.disjoint_left]
  intro j hj hj'
  exact h (((mem_row i j).mp hj).symm.trans ((mem_row i' j).mp hj'))

/-- together the rows are the whole buffer. -/
theorem row_cover : (Finset.univ.biUnion rowSet) = Finset.univ := by
  ext j
  simp only [Finset.mem_biUnion, Finset.mem_univ, true_and, iff_true]
  exact ⟨rowOf j, (mem_row (rowOf j) j).mpr rfl⟩

/-- Writing device `i`'s column sums into row `i` makes the row what `commAt` says, whatever was there. -/
theorem row_written (i : Dev nD) (f : (cc0_scratch1 : Ref sig .tc).ty.Contents (Elt F)) :
    ∀ j ∈ rowSet i, (rowM i).view.write (Elt F) f (totM.view.read (Elt F) (totAt m i)) Finset.univ j = commAt m j := by
  intro j hj
  obtain ⟨x, rfl⟩ := View.exists_of_mem_set_slice hj
  refine (View.write_emb_of_mem (v := (rowM i).view) f _ (Finset.mem_univ x)).trans ?_
  have hi : rowOf ((rowR i).emb x) = i := (mem_row i _).mp hj
  show totAt m i x = totAt m (rowOf ((rowR i).emb x)) (colOf ((rowR i).emb x))
  rw [hi]
  refine congrArg _ (funext fun a => Fin.ext ?_)
  match a with
  | ⟨0, _⟩ => exact Nat.lt_one_iff.mp (x 0).isLt
  | ⟨1, _⟩ => show (x 1).val = 0 + 1 * (x 1).val; omega

/-! ## The kernel's loads and stores of whole buffers -/

theorem hz : (![0, 0] : Fin 2 → ℕ) = fun _ => 0 := funext fun a => by fin_cases a <;> rfl

/-- Copying the argument over the scratch copy makes it the argument. -/
theorem x_copied (c : Dev nD) (f : (cc0_scratch0 : Ref sig .tc).ty.Contents (Elt F)) :
    xM.view.write (Elt F) f (argM.view.read (Elt F) (xAt m c)) Finset.univ = xAt m c :=
  View.write_whole_univ _ _ _

/-! ## The carry reads the filled rows only -/

/-- The kernel's row mask: row `r` counts on device `c` exactly if `r < c`. -/
theorem mask_iff (c r : Dev nD) : Iff (Scalar.cmpi .slt (BitVec.ofNat 32 r.val) (numW c) = 1#1) (r < c) := by
  revert c r; decide +kernel

/-- The sum of the rows below `c` depends on those rows only. -/
theorem pay3_congr (c : Dev nD) (f g : Vec F S16x256 .f32) (h : ∀ j : S16x256.Idx, rowOf j < c → f j = g j) :
    k0_pay3 (numW c) f = k0_pay3 (numW c) g := by
  unfold k0_pay3
  dsimp only
  congr 1
  funext j
  have hm : Iff (cmpi .slt (iota .tc S16x256 32 [0] iota_S16x256_d0_w32) (broadcast S16x256 (numW c)) j = 1#1) (rowOf j < c) := by
    rw [← mask_iff c (rowOf j)]
    show Iff (Scalar.cmpi .slt (BitVec.ofNat 32 (0 * 16 + (j 0).val)) (numW c) = 1#1) _
    rw [Nat.zero_mul, Nat.zero_add]
    rfl
  show (if cmpi .slt (iota .tc S16x256 32 [0] iota_S16x256_d0_w32) (broadcast S16x256 (numW c)) j = 1#1 then f j else _)
    = if cmpi .slt (iota .tc S16x256 32 [0] iota_S16x256_d0_w32) (broadcast S16x256 (numW c)) j = 1#1 then g j else _
  by_cases hj : rowOf j < c
  · rw [if_pos (hm.mpr hj), if_pos (hm.mpr hj), h j hj]
  · rw [if_neg (fun h' => hj (hm.mp h')), if_neg (fun h' => hj (hm.mp h'))]

end Cert.Scan

end
-- ==== Proof.Protocol.lean ====
/-
# The protocol of the semaphores

Every device `c` has a barrier semaphore, a semaphore for the local copy of its argument, and for each device `j` a send
semaphore and a receive semaphore. Each is used for one round:

* the barrier of `c` is raised by one by every later device `d`, which thereby lends `c` row `c` of its sixteen-row buffer
  to write into;
* the copy semaphore of `c` is raised by its own copy, whose completion returns the argument and its copy;
* the send semaphore `j` of `c`, for a later `j`, is raised when the transfer to `j` has read the column sums, and returns
  the share of them lent to the transfer;
* the receive semaphore `i` of `c`, for an earlier `i`, is raised when the transfer from `i` has landed, and hands over row
  `i` holding the column sums of `i`.

The module states this schedule, what each device owes at launch, and the levels that order the waits: a device waits
on its barrier while it owes receive semaphores only, and on the others while it owes nothing that stands lower.
-/
module

public import proofs.«01_k».proof.Proof.Arrays

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The barrier semaphore, and the copy's, the sends' and the receives'. -/
abbrev barS : Sem sig := (SemArray.scalar (sig.barrier 0 rfl) : Sems sig S_).sem
theorem lt_nDma {k : ℕ} (h : k < 34) : k < sig.nDmaSem := h
def copyQ : DmaSem sig := ⟨1, lt_nDma (by omega)⟩
def sendQ (j : Dev nD) : DmaSem sig := ⟨2 + j.val, lt_nDma (by have : j.val < 16 := j.isLt; omega)⟩
def recvQ (i : Dev nD) : DmaSem sig := ⟨18 + i.val, lt_nDma (by have : i.val < 16 := i.isLt; omega)⟩

/-- The semaphores on each device. -/
abbrev barCell (c : Dev nD) : GSem nD τ sig := ((c : Thread nD τ), .reg barS)
abbrev copyCell (c : Dev nD) : GSem nD τ sig := ((c : Thread nD τ), .dma copyQ)
abbrev sendCell (c j : Dev nD) : GSem nD τ sig := ((c : Thread nD τ), .dma (sendQ j))
abbrev recvCell (c i : Dev nD) : GSem nD τ sig := ((c : Thread nD τ), .dma (recvQ i))

/-- What one transfer of a row, and the copy of the block, credit. -/
abbrev N : ℕ := totM.view.dmaCredit
abbrev NX : ℕ := xM.view.dmaCredit
theorem N_pos : 0 < N := View.dmaCredit_pos _ (by decide)
theorem NX_pos : 0 < NX := View.dmaCredit_pos _ (by decide)

/-! ## What the semaphores hand over -/

variable (m : (ℓ : Loc nD τ sig) → Buf (Elt F) ℓ)

/-- Row `i` of device `d`'s sixteen-row buffer. -/
def rowPts (d i : Dev nD) (f : (cc0_scratch1 : Ref sig .tc).ty.Contents (Elt F)) : sProp 𝕄 :=
  (rowM i).view.loc (d : Thread nD τ) ↦[(rowM i).view.set]{fullShare} f

/-- A share of device `c`'s column sums. -/
def totPts (c : Dev nD) (q : PosShare TreeShare) : sProp 𝕄 :=
  totM.view.loc (c : Thread nD τ) ↦[totM.view.set]{q} totAt m c

/-- Device `c`'s argument, and its copy. -/
def argPts (c : Dev nD) : sProp 𝕄 := argM.view.loc (c : Thread nD τ) ↦[argM.view.set]{fullShare} xAt m c
def xPts (c : Dev nD) : sProp 𝕄 := xM.view.loc (c : Thread nD τ) ↦[xM.view.set]{fullShare} xAt m c

/-- The share of its column sums a device lends its transfer to device `j`. -/
abbrev shareOf (j : Dev nD) : PosShare TreeShare := Transfers.shareTokN fullShare j.val

instance rowPts_storable (d i : Dev nD) (f) : BI.Storable (upEmb : UEmb _ 𝕄) (rowPts (F := F) d i f) := by unfold rowPts; infer_instance
instance totPts_storable (c : Dev nD) (q) : BI.Storable (upEmb : UEmb _ 𝕄) (totPts (F := F) m c q) := by unfold totPts; infer_instance
instance argPts_storable (c : Dev nD) : BI.Storable (upEmb : UEmb _ 𝕄) (argPts (F := F) m c) := by unfold argPts; infer_instance
instance xPts_storable (c : Dev nD) : BI.Storable (upEmb : UEmb _ 𝕄) (xPts (F := F) m c) := by unfold xPts; infer_instance

/-! ## The schedule -/

/-- Who raises a DMA semaphore `q` of device `c`: nobody; `c` itself (the copy, and the send to a later device); or the
    earlier device a receive semaphore is for. -/
def dutyDma (c : Dev nD) (q : ℕ) : Finset (Dev nD) :=
  Finset.univ.filter fun i => (q = 1 ∧ i = c) ∨ (q < 18 ∧ i = c ∧ c.val + 2 < q) ∨ (q = 18 + i.val ∧ i < c)

theorem mem_dutyDma {c : Dev nD} {q : ℕ} {i : Dev nD} :
    Iff (i ∈ dutyDma c q) ((q = 1 ∧ i = c) ∨ (q < 18 ∧ i = c ∧ c.val + 2 < q) ∨ (q = 18 + i.val ∧ i < c)) := by
  unfold dutyDma
  rw [Finset.mem_filter]
  exact ⟨fun h => h.2, fun h => ⟨Finset.mem_univ _, h⟩⟩

/-- What is handed over with it. -/
def payDma (c : Dev nD) (q : ℕ) (i : Dev nD) : sProp 𝕄 :=
  if q = 1 then iprop(xPts m c ∗ argPts m c) else if q < 18 then totPts m c (Transfers.shareTokN fullShare (q - 2)) else rowPts c i (commAt m)

instance payDma_storable (c : Dev nD) (q : ℕ) (i : Dev nD) : BI.Storable (upEmb : UEmb _ 𝕄) (payDma (F := F) m c q i) := by
  unfold payDma; (repeat' split) <;> infer_instance

/-- The schedule: one round, round 0, on the devices' semaphores. -/
def Rd : Rounds.Schedule (GSem nD τ sig) (Dev nD) 𝕄 where
  duties g r := if r = 0 ∧ g.1.2 = .tc then (match g.2 with | .reg _ => Finset.univ.filter (g.1.1 < ·) | .dma q => dutyDma g.1.1 q.val) else ∅
  amount g _ _ := match g.2 with | .reg _ => 1 | .dma q => if q.val = 1 then NX else N
  payload g _ d := match g.2 with | .reg _ => iprop(∃ f, rowPts d g.1.1 f) | .dma q => payDma m g.1.1 q.val d
  amount_pos g _ _ _ := by
    rcases g with ⟨t, s | q⟩
    · exact Nat.one_pos
    · show 0 < if q.val = 1 then NX else N
      split
      · exact NX_pos
      · exact N_pos
  unitless _ := False

instance Rd_payload_storable (g : GSem nD τ sig) (r : ℕ) (d : Dev nD) : BI.Storable (upEmb : UEmb _ 𝕄) ((Rd (F := F) m).payload g r d) := by
  rcases g with ⟨t, s | q⟩
  · show BI.Storable upEmb (iprop(∃ f, rowPts d t.1 f) : sProp 𝕄); infer_instance
  · show BI.Storable upEmb (payDma m t.1 q.val d); infer_instance

/-! ### Its entries -/

section Table

variable (c : Dev nD)

theorem duties_bar : (Rd (F := F) m).duties (barCell c) 0 = Finset.univ.filter (c < ·) := by dsimp only [Rd]; exact if_pos ⟨rfl, rfl⟩

theorem duties_dma (q : DmaSem sig) : (Rd (F := F) m).duties ((c : Thread nD τ), .dma q) 0 = dutyDma c q.val := by
  dsimp only [Rd]; exact if_pos ⟨rfl, rfl⟩

theorem duties_copy : (Rd (F := F) m).duties (copyCell c) 0 = {c} := by
  refine (duties_dma m c copyQ).trans ?_
  rw [show copyQ.val = 1 from rfl]
  ext i
  rw [mem_dutyDma, Finset.mem_singleton]
  exact ⟨fun h => by rcases h with ⟨-, h⟩ | ⟨-, h, -⟩ | ⟨h, -⟩ <;> first | exact h | omega, fun h => .inl ⟨rfl, h⟩⟩

theorem duties_send (j : Dev nD) : (Rd (F := F) m).duties (sendCell c j) 0 = if c < j then {c} else ∅ := by
  refine (duties_dma m c (sendQ j)).trans ?_
  rw [show (sendQ j).val = 2 + j.val from rfl]
  have : j.val < 16 := j.isLt
  ext i
  rw [mem_dutyDma]
  split
  · rename_i h
    have h' : c.val < j.val := h
    rw [Finset.mem_singleton]
    exact ⟨fun h => by rcases h with ⟨-, h⟩ | ⟨-, h, -⟩ | ⟨h, -⟩ <;> first | exact h | omega,
      fun h => .inr (.inl ⟨by omega, h, by omega⟩)⟩
  · rename_i h
    have h' : ¬c.val < j.val := h
    exact ⟨fun h => by rcases h with ⟨h, -⟩ | ⟨-, -, h⟩ | ⟨h, -⟩ <;> omega, fun h => absurd h (Finset.notMem_empty i)⟩

theorem duties_recv (i : Dev nD) : (Rd (F := F) m).duties (recvCell c i) 0 = if i < c then {i} else ∅ := by
  refine (duties_dma m c (recvQ i)).trans ?_
  rw [show (recvQ i).val = 18 + i.val from rfl]
  ext k
  rw [mem_dutyDma]
  split
  · rename_i h
    rw [Finset.mem_singleton]
    exact ⟨fun h => by rcases h with ⟨h, -⟩ | ⟨h, -⟩ | ⟨h, -⟩ <;> first | omega | exact Fin.ext (by omega),
      fun h' => .inr (.inr ⟨by rw [h'], h' ▸ h⟩)⟩
  · rename_i h
    refine ⟨fun h' => ?_, fun h => absurd h (Finset.notMem_empty k)⟩
    rcases h' with ⟨h', -⟩ | ⟨h', -⟩ | ⟨h', hk⟩
    · omega
    · omega
    · exact absurd ((Fin.ext (by omega) : k = i) ▸ hk) h

/-- No semaphore is used after its first round. -/
theorem duties_later (g : GSem nD τ sig) : ∀ r, 1 ≤ r → (Rd (F := F) m).duties g r = ∅ :=
  fun r hr => if_neg fun h => by omega

/-- A send semaphore for an earlier device, a receive semaphore for a later one and the last device's barrier are not used
    at all. -/
theorem duties_none_send (j : Dev nD) (h : ¬c < j) : ∀ r, 0 ≤ r → (Rd (F := F) m).duties (sendCell c j) r = ∅ := by
  intro r _
  rcases Nat.eq_zero_or_pos r with rfl | hr
  · rw [duties_send, if_neg h]
  · exact duties_later m _ r hr

theorem duties_none_recv (i : Dev nD) (h : ¬i < c) : ∀ r, 0 ≤ r → (Rd (F := F) m).duties (recvCell c i) r = ∅ := by
  intro r _
  rcases Nat.eq_zero_or_pos r with rfl | hr
  · rw [duties_recv, if_neg h]
  · exact duties_later m _ r hr

theorem duties_none_bar (h : c.val = 15) : ∀ r, 0 ≤ r → (Rd (F := F) m).duties (barCell c) r = ∅ := by
  intro r _
  rcases Nat.eq_zero_or_pos r with rfl | hr
  · rw [duties_bar]
    refine Finset.filter_false_of_mem fun i _ hi => ?_
    have h1 : i.val < 16 := i.isLt
    have h2 : c.val < i.val := hi
    omega
  · exact duties_later m _ r hr

theorem amount_bar (d : Dev nD) : (Rd (F := F) m).amount (barCell c) 0 d = 1 := rfl
theorem amount_copy (d : Dev nD) : (Rd (F := F) m).amount (copyCell c) 0 d = NX := by
  show (if (1 : ℕ) = 1 then NX else N) = NX
  exact if_pos rfl
theorem amount_send (j d : Dev nD) : (Rd (F := F) m).amount (sendCell c j) 0 d = N := if_neg fun h => by
  have h' : 2 + j.val = 1 := h
  omega
theorem amount_recv (i d : Dev nD) : (Rd (F := F) m).amount (recvCell c i) 0 d = N := if_neg fun h => by
  have h' : 18 + i.val = 1 := h
  omega

/-- The number of devices after `c`. -/
theorem card_later : (Finset.univ.filter fun d : Dev nD => c < d).card = 15 - c.val := by revert c; decide

theorem expect_bar : (Rd (F := F) m).expect (barCell c) 0 = 15 - c.val := by
  unfold Schedule.expect Schedule.amountOf
  rw [duties_bar, Finset.sum_congr rfl fun d _ => amount_bar m c d, Finset.sum_const, card_later, smul_eq_mul, Nat.mul_one]
theorem expect_copy : (Rd (F := F) m).expect (copyCell c) 0 = NX := by
  unfold Schedule.expect Schedule.amountOf; rw [duties_copy, Finset.sum_singleton, amount_copy]
theorem expect_send (j : Dev nD) (h : c < j) : (Rd (F := F) m).expect (sendCell c j) 0 = N := by
  unfold Schedule.expect Schedule.amountOf; rw [duties_send, if_pos h, Finset.sum_singleton, amount_send]
theorem expect_recv (i : Dev nD) (h : i < c) : (Rd (F := F) m).expect (recvCell c i) 0 = N := by
  unfold Schedule.expect Schedule.amountOf; rw [duties_recv, if_pos h, Finset.sum_singleton, amount_recv]

theorem payload_bar (d : Dev nD) : (Rd (F := F) m).payload (barCell c) 0 d = iprop(∃ f, rowPts d c f) := rfl
theorem payload_copy (d : Dev nD) : (Rd (F := F) m).payload (copyCell c) 0 d = iprop(xPts m c ∗ argPts m c) := by
  show payDma m c 1 d = _
  exact if_pos rfl
theorem payload_send (j d : Dev nD) : (Rd (F := F) m).payload (sendCell c j) 0 d = totPts m c (shareOf j) := by
  have hj : j.val < 16 := j.isLt
  show payDma m c (2 + j.val) d = _
  unfold payDma
  rw [if_neg (by omega), if_pos (by omega), Nat.add_sub_cancel_left]
theorem payload_recv (i d : Dev nD) : (Rd (F := F) m).payload (recvCell c i) 0 d = rowPts c d (commAt m) := by
  show payDma m c (18 + i.val) d = _
  unfold payDma
  rw [if_neg (by omega), if_neg (by omega)]

/-- What a whole round hands over, semaphore by semaphore. -/
theorem rest_bar : bigSep ((Rd (F := F) m).duties (barCell c) 0 \ ∅) (fun d => (Rd (F := F) m).payload (barCell c) 0 d)
    = bigSep (Finset.univ.filter (c < ·)) fun d => iprop(∃ f, rowPts d c f) := by
  rw [Finset.sdiff_empty, duties_bar]
  exact bigSep_congr fun d _ => payload_bar m c d
theorem rest_copy : bigSep ((Rd (F := F) m).duties (copyCell c) 0 \ ∅) (fun d => (Rd (F := F) m).payload (copyCell c) 0 d) = iprop(xPts m c ∗ argPts m c) := by
  rw [Finset.sdiff_empty, duties_copy, bigSep_singleton, payload_copy]
theorem rest_send (j : Dev nD) (h : c < j) :
    bigSep ((Rd (F := F) m).duties (sendCell c j) 0 \ ∅) (fun d => (Rd (F := F) m).payload (sendCell c j) 0 d) = totPts m c (shareOf j) := by
  rw [Finset.sdiff_empty, duties_send, if_pos h, bigSep_singleton, payload_send]
theorem rest_recv (i : Dev nD) (h : i < c) :
    bigSep ((Rd (F := F) m).duties (recvCell c i) 0 \ ∅) (fun d => (Rd (F := F) m).payload (recvCell c i) 0 d) = rowPts c i (commAt m) := by
  rw [Finset.sdiff_empty, duties_recv, if_pos h, bigSep_singleton, payload_recv]

end Table

/-! ## What a device owes -/

/-- The signals device `c` still owes before step `j` of its signal loop, one to each earlier device's barrier; -/
def owedBar (c : Dev nD) (j : ℕ) : CellTallies nD τ sig Unit := ∑ i ∈ ahead (· < c) j, tallyAt (barCell i) () 1

/-- the transfers it still owes before step `j` of its send loop, one to each later device. -/
def owedRecv (c : Dev nD) (j : ℕ) : CellTallies nD τ sig Unit := ∑ i ∈ ahead (c < ·) j, tallyAt (recvCell i c) () N

/-- What it owes at launch. -/
def O₀ (c : Dev nD) : CellTallies nD τ sig Unit := owedRecv c 0 + owedBar c 0

theorem owedBar_pos (c j : Dev nD) (h : j < c) : owedBar c j.val = owedBar c (j.val + 1) + tallyAt (barCell j) () 1 := by
  unfold owedBar
  rw [ahead_of_pos (· < c) j h, Finset.sum_insert (notMem_ahead_succ _ j), add_comm]
theorem owedBar_neg (c j : Dev nD) (h : ¬j < c) : owedBar c j.val = owedBar c (j.val + 1) := by
  unfold owedBar; rw [ahead_of_neg (· < c) j h]
theorem owedBar_last (c : Dev nD) : owedBar c 16 = 0 := by
  unfold owedBar; rw [show ahead (· < c) 16 = ∅ from ahead_last (· < c), Finset.sum_empty]
theorem owedRecv_pos (c j : Dev nD) (h : c < j) : owedRecv c j.val = owedRecv c (j.val + 1) + tallyAt (recvCell j c) () N := by
  unfold owedRecv
  rw [ahead_of_pos (c < ·) j h, Finset.sum_insert (notMem_ahead_succ _ j), add_comm]
theorem owedRecv_neg (c j : Dev nD) (h : ¬c < j) : owedRecv c j.val = owedRecv c (j.val + 1) := by
  unfold owedRecv; rw [ahead_of_neg (c < ·) j h]
theorem owedRecv_last (c : Dev nD) : owedRecv c 16 = 0 := by
  unfold owedRecv; rw [show ahead (c < ·) 16 = ∅ from ahead_last (c < ·), Finset.sum_empty]

/-- A sum of tallies is positive only where a summand is. -/
theorem sum_tally_pos {s : Finset (Dev nD)} {cell : Dev nD → GSem nD τ sig} {k : ℕ} {g : GSem nD τ sig} {u : Unit}
    (h : 0 < (∑ i ∈ s, tallyAt (cell i) () k : CellTallies nD τ sig Unit) g u) : ∃ i, g = cell i := by
  rw [Finset.sum_apply, Finsupp.finset_sum_apply] at h
  obtain ⟨i, -, hi⟩ := Finset.exists_ne_zero_of_sum_ne_zero h.ne'
  refine ⟨i, by_contra fun hn => hi ?_⟩
  rw [tallyAt_apply, if_neg fun h' => hn h'.1]

theorem owedRecv_at {c : Dev nD} {j : ℕ} {g : GSem nD τ sig} {u : Unit} (h : 0 < owedRecv c j g u) : ∃ i, g = recvCell i c :=
  sum_tally_pos h

theorem O₀_at {c : Dev nD} {g : GSem nD τ sig} {u : Unit} (h : 0 < O₀ c g u) : (∃ i, g = recvCell i c) ∨ ∃ i, g = barCell i := by
  unfold O₀ at h
  rw [Pi.add_apply, Finsupp.add_apply] at h
  rcases Nat.eq_zero_or_pos (owedRecv c 0 g u) with h0 | h0
  · rw [h0, Nat.zero_add] at h
    exact .inr (sum_tally_pos h)
  · exact .inl (sum_tally_pos h0)

/-! ## The levels -/

def L (g : GSem nD τ sig) : Finset Unit := if g.1.2 = .tc then {()} else ∅
/-- The barriers at 1, the receive semaphores at 2, everything else at 0. -/
def lv (g : GSem nD τ sig) (_ : Unit) : ℕ := match g.2 with | .reg _ => 1 | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c i : Dev nD) : lv (recvCell c i) () = 2 := if_pos (Nat.le_add_right 18 i.val)
theorem lv_bar (c : Dev nD) : lv (barCell c) () = 1 := rfl
theorem lv_low (c : Dev nD) (q : DmaSem sig) (h : q.val < 18) : lv ((c : Thread nD τ), .dma q) () = 0 := if_neg (Nat.not_le.mpr h)

/-- A device may wait on a semaphore that stands lower than all it owes. -/
theorem mayWait_of (c : Dev nD) (sm : SemLoc sig) (O : CellTallies nD τ sig Unit) (n : ℕ) (hsm : lv ((c : Thread nD τ), sm) () ≤ n)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

/-- While it owes all it owes at launch it may wait on a low semaphore (those of the staging buffers); -/
theorem mayWait_low (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine mayWait_of c _ _ 0 (lv_low c q hq).le fun g u hg => ?_
    rcases O₀_at hg with ⟨i, rfl⟩ | ⟨i, rfl⟩
    · exact ⟨rfl, by rw [lv_recv]; decide⟩
    · exact ⟨rfl, by rw [lv_bar]; decide⟩
  · rw [MayWait_zero]; iintro -; iempintro

/-- while it owes transfers only it may wait on its copy's semaphore and on its barrier. -/
theorem mayWait_copy (c : Dev nD) : (levAts L lv : sProp 𝕄) ⊢ MayWait (c : Thread nD τ) (.dma copyQ) () (owedRecv c 0) :=
  mayWait_of c _ _ 0 (lv_low c copyQ (by decide)).le fun g u hg => by
    obtain ⟨i, rfl⟩ := owedRecv_at hg
    exact ⟨rfl, by rw [lv_recv]; decide⟩
theorem mayWait_bar (c : Dev nD) : (levAts L lv : sProp 𝕄) ⊢ MayWait (c : Thread nD τ) (.reg barS) () (owedRecv c 0) :=
  mayWait_of c _ _ 1 (lv_bar c).le fun g u hg => by
    obtain ⟨i, rfl⟩ := owedRecv_at hg
    exact ⟨rfl, by rw [lv_recv]; decide⟩

end Cert.Scan

end
-- ==== Proof.Steps.lean ====
/-
# One step of each loop of the body

The body's remote operations are guarded by a comparison of the device's number with the step's. This module states, for
each kind of operation, what it does when it is performed: the signal to an earlier device's barrier, the wait on the
barrier, the transfer to a later device, the wait for the transfer of an earlier device, and the wait for a transfer of
the device's own to have left. Throughout, the device keeps the record of all semaphores (`carry`).
-/
module

public import proofs.«01_k».proof.Proof.Protocol

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The record of the semaphores -/

/-- The semaphores of one device the protocol uses: number 0 its barrier, number `k ≥ 1` its DMA semaphore `k`. -/
def csem (k : Fin 34) : SemLoc sig := if k.val = 0 then .reg barS else .dma ⟨k.val, lt_nDma k.isLt⟩

/-- A semaphore of a device, by its number. -/
def kcell (k : Dev nD × Fin 34) : GSem nD τ sig := ((k.1 : Thread nD τ), csem k.2)

/-- The number of each semaphore. -/
def barIx (c : Dev nD) : Dev nD × Fin 34 := (c, 0)
def copyIx (c : Dev nD) : Dev nD × Fin 34 := (c, 1)
def sendIx (c j : Dev nD) : Dev nD × Fin 34 := (c, ⟨2 + j.val, by have : j.val < 16 := j.isLt; omega⟩)
def recvIx (c i : Dev nD) : Dev nD × Fin 34 := (c, ⟨18 + i.val, by have : i.val < 16 := i.isLt; omega⟩)

theorem kcell_bar (c : Dev nD) : kcell (barIx c) = barCell c := rfl
theorem kcell_copy (c : Dev nD) : kcell (copyIx c) = copyCell c := rfl
theorem kcell_send (c j : Dev nD) : kcell (sendIx c j) = sendCell c j := by
  unfold kcell csem sendIx
  rw [if_neg (by show ¬2 + j.val = 0; omega)]
  rfl
theorem kcell_recv (c i : Dev nD) : kcell (recvIx c i) = recvCell c i := by
  unfold kcell csem recvIx
  rw [if_neg (by show ¬18 + i.val = 0; omega)]
  rfl

variable (m : (ℓ : Loc nD τ sig) → Buf (Elt F) ℓ) (K : Dev nD × Fin 34 → ℕ)

/-- What is known throughout the launch: every semaphore follows the schedule, every semaphore is in its first round,
    and the levels. -/
def ctx : sProp 𝕄 :=
  iprop(bigSep Finset.univ (fun k => cellInv ER (Rd m) (K k) (kcell k)) ∗ bigSep Finset.univ (fun k => reached ER (kcell k) 0) ∗ (levAts L lv : sProp 𝕄))

instance ctx_persistent : BI.Persistent (ctx (F := F) m K) := by unfold ctx; infer_instance

theorem ctx_inv {k : Dev nD × Fin 34} {g : GSem nD τ sig} (h : kcell k = g) : ctx (F := F) m K ⊢ cellInv ER (Rd m) (K k) g := by
  subst h
  unfold ctx
  exact sep_elim_left.trans (bigSep_elim (Finset.mem_univ k))

theorem ctx_reached (k : Dev nD × Fin 34) {g : GSem nD τ sig} (h : kcell k = g) : ctx (F := F) m K ⊢ reached ER g 0 := by
  subst h
  unfold ctx
  exact sep_elim_right.trans (sep_elim_left.trans (bigSep_elim (Finset.mem_univ k)))

theorem ctx_levs : ctx (F := F) m K ⊢ (levAts L lv : sProp 𝕄) := by
  unfold ctx
  iintro ⟨-, -, H⟩
  iexact H

/-- While it owes transfers only, a device may wait on its barrier and on its copy's semaphore. -/
theorem ctx_wait_bar (c : Dev nD) : ctx (F := F) m K ⊢ MayWait (c : Thread nD τ) (.reg barS) () (owedRecv c 0) := (ctx_levs m K).trans (mayWait_bar c)
theorem ctx_wait_copy (c : Dev nD) : ctx (F := F) m K ⊢ MayWait (c : Thread nD τ) (.dma copyQ) () (owedRecv c 0) := (ctx_levs m K).trans (mayWait_copy c)

/-- What a device carries through its loops: that record, and what it owes. -/
def carry (c : Dev nD) (O : CellTallies nD τ sig Unit) : sProp 𝕄 := iprop(ctx m K ∗ ∃ W, owes (c : Thread nD τ) O W)

/-! ## The signal -/

/-- What a signal to the barrier of device `i` spends: its token, and row `i` of the device's sixteen-row buffer. -/
def sigIn (c i : Dev nD) : sProp 𝕄 := iprop(dutyTok ER (barCell i) 0 c ∗ ∃ f, rowPts (F := F) c i f)

theorem signal_step (c j : Dev nD) (hj : j < c) (n : Dev nD) (hn : n = j) :
    iprop(carry m K c (owedRecv c 0 + owedBar c j.val) ∗ sigIn c j)
      ⊢ wp frame (wpE (defs₀ (F := F)) 𝒱₀ (c : Thread nD τ) none) Set.univ
          (do semSignalWord n barS 1#32; pure ⟨⟩ : Prog (TpuEff nD τ sig (Elt F) Λ₀ .tc) PUnit) fun _ => iprop(carry m K c (owedRecv c 0 + owedBar c (j.val + 1)) ∗ emp) := by
  subst hn
  simp only [semSignalWord, Prog.lift, Prog.bind_op, Prog.bind_ret, Prog.pure_eq_ret]
  rw [show (1#32 : BitVec 32).toInt = ((1 : ℕ) : ℤ) from rfl]
  unfold carry sigIn
  iintro ⟨⟨#Hc, ⟨%W, HO⟩⟩, Ht, Hr⟩
  iapply (Rounds.wp_signal 𝒱₀ ER (Rd m) (c : Thread nD τ) none (dst := (n : Thread nD τ)) (κ := K (barIx n)) (r := 0)
      (d := c) (by rw [duties_bar]; exact Finset.mem_filter.mpr ⟨Finset.mem_univ _, hj⟩) (amount_bar m n c) ()
      (owedRecv c 0 + owedBar c (n.val + 1)) (O₀ := owedRecv c 0 + owedBar c n.val) (by rw [owedBar_pos c n hj, add_assoc])) $$ [HO Ht Hr]
  · isplitr; · iapply (ctx_inv m K (kcell_bar n)); iexact Hc
    isplitl [HO]; · iexact HO
    isplitl [Ht]; · iexact Ht
    isplitl [Hr]; · rw [payload_bar]; iexact Hr
    iapply (ctx_reached m K _ (kcell_bar n)); iexact Hc
  iintro HO
  rw [wp_ret]; imodintro
  isplitl [HO]
  · isplitr; · iexact Hc
    iexists W; iexact HO
  iempintro

/-! ## The wait on the barrier -/

/-- What the wait on the barrier spends, and what it gives: row `c` of every later device's buffer; the barrier is done. -/
def barIn (c : Dev nD) : sProp 𝕄 := iprop(cred (tallyAt (barCell c) () (15 - c.val)) ∗ atPos ER (barCell c) 0 ∅ 0)
def barOut (c : Dev nD) : sProp 𝕄 :=
  iprop(bigSep (Finset.univ.filter (c < ·)) (fun d => iprop(∃ f, rowPts (F := F) d c f)) ∗ semVal (barCell c) 0)

theorem barrier_step (c : Dev nD) (k : BitVec 32) (hk : k.toInt = ((15 - c.val : ℕ) : ℤ)) :
    iprop(carry m K c (owedRecv c 0) ∗ barIn c)
      ⊢ wp frame (wpE (defs₀ (F := F)) 𝒱₀ (c : Thread nD τ) none) Set.univ
          (do semWaitWord barS k; pure ⟨⟩ : Prog (TpuEff nD τ sig (Elt F) Λ₀ .tc) PUnit) fun _ => iprop(carry m K c (owedRecv c 0) ∗ barOut c) := by
  simp only [semWaitWord, Prog.lift, Prog.bind_op, Prog.bind_ret, Prog.pure_eq_ret]
  rw [hk]
  unfold carry barIn barOut
  iintro ⟨⟨#Hc, ⟨%W, HO⟩⟩, Hcr, Hat⟩
  iapply (Rounds.wp_wait_rest_token 𝒱₀ ER (Rd m) (c : Thread nD τ) none (κ := K (barIx c))
      (wpE_semWait_eq 𝒱₀ (c : Thread nD τ) none Set.univ) (Set.mem_univ _) () (O := owedRecv c 0) (W := W) (R := 0) (m := 0) (T := ∅)
      (by rw [Nat.zero_add]; exact (expect_bar m c).symm)) $$ [Hcr HO Hat]
  · isplitr; · iapply (ctx_inv m K (kcell_bar c)); iexact Hc
    isplitl [Hcr]; · iexact Hcr
    isplitl [HO]; · iexact HO
    isplitr; · iapply (ctx_wait_bar m K c); iexact Hc
    iexact Hat
  iintro ⟨HO, Hat, -, Hpay⟩
  ihave Hp := (Entails.of_eq (rest_bar m c)) $$ Hpay
  imod (Rounds.cell_close ER (Rd m) (Set.mem_univ (K (barIx c))) (fun h => h) (R := 0 + 1) (duties_later m (barCell c))) $$ [Hat] with Hz
  · isplitr; · iapply (ctx_inv m K (kcell_bar c)); iexact Hc
    iexact Hat
  rw [wp_ret]; imodintro
  isplitl [HO]
  · isplitr; · iexact Hc
    iexists _; iexact HO
  isplitl [Hp] <;> iassumption

/-! ## The transfer -/

/-- What the transfer to device `j` spends: its two tokens, row `c` of `j`'s buffer, and a share of the column sums; and
    what it leaves: a claim on its own send semaphore. -/
def sendIn (c j : Dev nD) : sProp 𝕄 :=
  iprop(dutyTok ER (sendCell c j) 0 c ∗ dutyTok ER (recvCell j c) 0 c ∗ (∃ f, rowPts (F := F) j c f) ∗ totPts m c (shareOf j))
def sendOut (c j : Dev nD) : sProp 𝕄 := cred (tallyAt (sendCell c j) () N)

set_option maxHeartbeats 1600000 in
theorem send_step (c j : Dev nD) (hj : c < j) (n : Dev nD) (hn : n = j) (q q' : DmaSem sig) (hq : q = sendQ j) (hq' : q' = recvQ c)
    (off : Fin 2 → ℕ) (hoff : off = ![c.val, 0]) (inb : ∀ a, off a + S1x256.size a ≤ S16x256.size a)
    {hsc : (commM.slice (Rect.unit (s := S16x256) off S1x256.size inb) (fun _ => rfl) : Memref sig (Dev.tc n : Thread nD τ).2.kind .vmem S1x256 .f32).view.ref.isScScratch = false}
    {hsrc : (totM : Memref sig .tc .vmem S1x256 .f32).view.WordExact}
    {hdst : (commM.slice (Rect.unit (s := S16x256) off S1x256.size inb) (fun _ => rfl) : Memref sig .tc .vmem S1x256 .f32).view.WordExact}
    {hsem : DmaTarget.Typed .vmem (.dma q') (.remote (Dev.tc n : Thread nD τ) (commM.slice (Rect.unit (s := S16x256) off S1x256.size inb) (fun _ => rfl) : Memref sig .tc .vmem S1x256 .f32) (.dma q) hsc)} :
    iprop(carry m K c (owedRecv c j.val) ∗ sendIn m c j)
      ⊢ wp frame (wpE (defs₀ (F := F)) 𝒱₀ (c : Thread nD τ) none) Set.univ
          (do Prog.lift (.enqueueDma totM (.remote (Dev.tc n : Thread nD τ) (commM.slice (Rect.unit (s := S16x256) off S1x256.size inb) (fun _ => rfl) : Memref sig .tc .vmem S1x256 .f32) (.dma q) hsc) (.dma q') hsrc hdst hsem); pure ⟨⟩ : Prog (TpuEff nD τ sig (Elt F) Λ₀ .tc) PUnit)
          fun _ => iprop(carry m K c (owedRecv c (j.val + 1)) ∗ sendOut c j) := by
  subst hn hq hq' hoff
  simp only [Prog.lift, Prog.bind_op, Prog.bind_ret, Prog.pure_eq_ret]
  unfold carry sendIn sendOut
  iintro ⟨⟨#Hc, ⟨%W, HO⟩⟩, Hts, Htr, ⟨%f, Hrow⟩, Htot⟩
  unfold rowPts
  iapply (Rounds.wp_send_pointsTo 𝒱₀ ER (Rd m) (c : Thread nD τ) none (κ₁ := K (sendIx c n)) (κ₂ := K (recvIx n c))
    (c' := (n : Thread nD τ)) (dst := (rowM c : Memref sig (Dev.tc n : Thread nD τ).2.kind .vmem S1x256 .f32)) (r₁ := 0) (r₂ := 0) (d₁ := c) (d₂ := c) (q := shareOf n) (fs := totAt m c) (fd := f)
    (by rw [duties_send, if_pos hj]; exact Finset.mem_singleton_self _) (by rw [duties_recv, if_pos hj]; exact Finset.mem_singleton_self _)
    () () N rfl (amount_send m c n c) (amount_recv m n c c) (owedRecv c (n.val + 1)) (owedRecv_pos c n hj) (W := W)
    (by rw [payload_send]; exact BI.Entails.refl _)
    (by rw [payload_recv]; unfold rowPts; exact Entails.of_eq (pointsTo_congr (row_written m c f)))) $$ [HO Hts Htr Hrow Htot]
  · isplitr; · iapply (ctx_inv m K (kcell_send c n)); iexact Hc
    isplitr; · iapply (ctx_inv m K (kcell_recv n c)); iexact Hc
    isplitl [Htot]; · unfold totPts; iexact Htot
    isplitl [Hrow]; · iexact Hrow
    isplitl [HO]; · iexact HO
    isplitl [Hts]; · iexact Hts
    isplitr; · iapply (ctx_reached m K _ (kcell_send c n)); iexact Hc
    isplitl [Htr]; · iexact Htr
    iapply (ctx_reached m K _ (kcell_recv n c)); iexact Hc
  iintro ⟨Hcr, HO⟩
  rw [wp_ret]; imodintro
  isplitl [HO]
  · isplitr; · iexact Hc
    iexists _; iexact HO
  iexact Hcr

/-! ## The waits for transfers -/

/-- What the wait for the transfer of an earlier device `i` spends, and what it gives: row `i`, holding the column sums
    of `i`. -/
def recvIn (c i : Dev nD) : sProp 𝕄 := iprop(cred (tallyAt (recvCell c i) () N) ∗ atPos ER (recvCell c i) 0 ∅ 0)
def recvOut (c i : Dev nD) : sProp 𝕄 := iprop(rowPts c i (commAt m) ∗ semVal (recvCell c i) 0)

theorem recv_step (c i : Dev nD) (hi : i < c) (q : DmaSem sig) (hq : q = recvQ i)
    (off : Fin 2 → ℕ) (inb : ∀ a, off a + S1x256.size a ≤ S16x256.size a)
    {hsrc : (totM : Memref sig .tc .vmem S1x256 .f32).view.WordExact}
    {hdst : (commM.slice (Rect.unit (s := S16x256) off S1x256.size inb) (fun _ => rfl) : Memref sig .tc .vmem S1x256 .f32).view.WordExact} :
    iprop(carry m K c 0 ∗ recvIn c i)
      ⊢ wp frame (wpE (defs₀ (F := F)) 𝒱₀ (c : Thread nD τ) none) Set.univ
          (do Prog.lift (.waitDma2 q totM (commM.slice (Rect.unit (s := S16x256) off S1x256.size inb) (fun _ => rfl) : Memref sig .tc .vmem S1x256 .f32) hsrc hdst); pure ⟨⟩ : Prog (TpuEff nD τ sig (Elt F) Λ₀ .tc) PUnit)
          fun _ => iprop(carry m K c 0 ∗ recvOut m c i) := by
  subst hq
  simp only [Prog.lift, Prog.bind_op, Prog.bind_ret, Prog.pure_eq_ret]
  unfold carry recvIn recvOut
  iintro ⟨⟨#Hc, ⟨%W, HO⟩⟩, Hcr, Hat⟩
  iapply (Rounds.wp_wait_rest_token 𝒱₀ ER (Rd m) (c : Thread nD τ) none (κ := K (recvIx c i))
      (wpE_waitDma2_eq 𝒱₀ (c : Thread nD τ) none Set.univ) (Set.mem_univ _) () (O := 0) (W := W) (R := 0) (m := 0) (T := ∅)
      (by rw [Nat.zero_add]; exact (expect_recv m c i hi).symm)) $$ [Hcr HO Hat]
  · isplitr; · iapply (ctx_inv m K (kcell_recv c i)); iexact Hc
    isplitl [Hcr]; · iexact Hcr
    isplitl [HO]; · iexact HO
    isplitr; · rw [MayWait_zero]; iempintro
    iexact Hat
  iintro ⟨HO, Hat, -, Hpay⟩
  ihave Hp := (Entails.of_eq (rest_recv m c i hi)) $$ Hpay
  imod (Rounds.cell_close ER (Rd m) (Set.mem_univ (K (recvIx c i))) (fun h => h) (R := 0 + 1) (duties_later m (recvCell c i))) $$ [Hat] with Hz
  · isplitr; · iapply (ctx_inv m K (kcell_recv c i)); iexact Hc
    iexact Hat
  rw [wp_ret]; imodintro
  isplitl [HO]
  · isplitr; · iexact Hc
    iexists _; iexact HO
  isplitl [Hp] <;> iassumption

/-- What the wait for the device's own transfer to `j` to have left spends, and what it gives: the share of the column
    sums lent to the transfer. -/
def leftIn (c j : Dev nD) : sProp 𝕄 := iprop(cred (tallyAt (sendCell c j) () N) ∗ atPos ER (sendCell c j) 0 ∅ 0)
def leftOut (c j : Dev nD) : sProp 𝕄 := iprop(totPts m c (shareOf j) ∗ semVal (sendCell c j) 0)

theorem left_step (c j : Dev nD) (hj : c < j) (q : DmaSem sig) (hq : q = sendQ j)
    (off : Fin 2 → ℕ) (inb : ∀ a, off a + S1x256.size a ≤ S16x256.size a)
    {hdst : (totM : Memref sig .tc .vmem S1x256 .f32).view.WordExact}
    {hsrc : (commM.slice (Rect.unit (s := S16x256) off S1x256.size inb) (fun _ => rfl) : Memref sig .tc .vmem S1x256 .f32).view.WordExact} :
    iprop(carry m K c 0 ∗ leftIn c j)
      ⊢ wp frame (wpE (defs₀ (F := F)) 𝒱₀ (c : Thread nD τ) none) Set.univ
          (do Prog.lift (.waitDma2 q (commM.slice (Rect.unit (s := S16x256) off S1x256.size inb) (fun _ => rfl) : Memref sig .tc .vmem S1x256 .f32) totM hsrc hdst); pure ⟨⟩ : Prog (TpuEff nD τ sig (Elt F) Λ₀ .tc) PUnit)
          fun _ => iprop(carry m K c 0 ∗ leftOut m c j) := by
  subst hq
  simp only [Prog.lift, Prog.bind_op, Prog.bind_ret, Prog.pure_eq_ret]
  unfold carry leftIn leftOut
  iintro ⟨⟨#Hc, ⟨%W, HO⟩⟩, Hcr, Hat⟩
  iapply (Rounds.wp_wait_rest_token 𝒱₀ ER (Rd m) (c : Thread nD τ) none (κ := K (sendIx c j))
      (wpE_waitDma2_eq 𝒱₀ (c : Thread nD τ) none Set.univ) (Set.mem_univ _) () (O := 0) (W := W) (R := 0) (m := 0) (T := ∅)
      (by rw [Nat.zero_add]; exact (expect_send m c j hj).symm)) $$ [Hcr HO Hat]
  · isplitr; · iapply (ctx_inv m K (kcell_send c j)); iexact Hc
    isplitl [Hcr]; · iexact Hcr
    isplitl [HO]; · iexact HO
    isplitr; · rw [MayWait_zero]; iempintro
    iexact Hat
  iintro ⟨HO, Hat, -, Hpay⟩
  ihave Hp := (Entails.of_eq (rest_send m c j hj)) $$ Hpay
  imod (Rounds.cell_close ER (Rd m) (Set.mem_univ (K (sendIx c j))) (fun h => h) (R := 0 + 1) (duties_later m (sendCell c j))) $$ [Hat] with Hz
  · isplitr; · iapply (ctx_inv m K (kcell_send c j)); iexact Hc
    iexact Hat
  rw [wp_ret]; imodintro
  isplitl [HO]
  · isplitr; · iexact Hc
    iexists _; iexact HO
  isplitl [Hp] <;> iassumption

/-! ## The copy of the argument -/

set_option maxHeartbeats 1600000 in
/-- Starting the copy spends its token, the argument and the scratch buffer, and leaves a claim on the copy's semaphore. -/
theorem copy_start (c : Dev nD) {α : Type} {Q : α → sProp 𝕄} {k : PUnit → Prog (TpuEff nD τ sig (Elt F) Λ₀ .tc) α}
    {hsrc : (argM : Memref sig .tc .hbm S256x256 .f32).view.WordExact} {hdst : (xM : Memref sig .tc .vmem S256x256 .f32).view.WordExact}
    {hsem : DmaTarget.Typed (nD := nD) (τ := τ) (p := Proc.tc) .hbm (.dma copyQ) (.here (xM : Memref sig .tc .vmem S256x256 .f32))}
    (f : (cc0_scratch0 : Ref sig .tc).ty.Contents (Elt F)) :
    iprop(ctx m K ∗ argPts m c ∗ (xM.view.loc (c : Thread nD τ) ↦[xM.view.set]{fullShare} f) ∗ dutyTok ER (copyCell c) 0 c)
      ⊢ iprop((cred (tallyAt (copyCell c) () NX) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma argM (.here xM) (.dma copyQ) hsrc hdst hsem) k) Q) := by
  unfold argPts
  iintro ⟨#Hc, Ha, Hx, Ht⟩ Hk
  iapply (Rounds.wp_copy_pointsTo 𝒱₀ ER (Rd m) (c : Thread nD τ) none (src := argM) (dst := xM) (κ := K (copyIx c)) (r := 0) (d := c) (q := fullShare)
    (fs := xAt m c) (fd := f)
    (by rw [duties_copy]; exact Finset.mem_singleton_self _) () NX rfl (amount_copy m c c)
    (by rw [payload_copy, x_copied]; unfold xPts argPts; exact BI.Entails.refl _)) $$ [Ha Hx Ht] Hk
  isplitr; · iapply (ctx_inv m K (kcell_copy c)); iexact Hc
  isplitl [Ha]; · iexact Ha
  isplitl [Hx]; · iexact Hx
  isplitl [Ht]; · iexact Ht
  iapply (ctx_reached m K _ (kcell_copy c)); iexact Hc

/-- Waiting for the copy, while transfers are owed, gives the argument back and its copy. -/
theorem copy_wait (c : Dev nD) {α : Type} {Q : α → sProp 𝕄} {k : PUnit → Prog (TpuEff nD τ sig (Elt F) Λ₀ .tc) α}
    {hsrc : (argM : Memref sig .tc .hbm S256x256 .f32).view.WordExact} {hdst : (xM : Memref sig .tc .vmem S256x256 .f32).view.WordExact} :
    iprop(carry m K c (owedRecv c 0) ∗ cred (tallyAt (copyCell c) () NX) ∗ atPos ER (copyCell c) 0 ∅ 0)
      ⊢ iprop(((carry m K c (owedRecv c 0) ∗ xPts m c ∗ argPts m c ∗ semVal (copyCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 copyQ argM xM hsrc hdst) k) Q) := by
  unfold carry
  iintro ⟨⟨#Hc, ⟨%W, HO⟩⟩, Hcr, Hat⟩ Hk
  iapply (Rounds.wp_wait_rest_token 𝒱₀ ER (Rd m) (c : Thread nD τ) none (κ := K (copyIx c))
      (wpE_waitDma2_eq 𝒱₀ (c : Thread nD τ) none Set.univ) (Set.mem_univ _) () (O := owedRecv c 0) (W := W) (R := 0) (m := 0) (T := ∅)
      (by rw [Nat.zero_add]; exact (expect_copy m c).symm)) $$ [Hcr HO Hat]
  · isplitr; · iapply (ctx_inv m K (kcell_copy c)); iexact Hc
    isplitl [Hcr]; · iexact Hcr
    isplitl [HO]; · iexact HO
    isplitr; · iapply (ctx_wait_copy m K c); iexact Hc
    iexact Hat
  iintro ⟨HO, Hat, -, Hpay⟩
  ihave Hp := (Entails.of_eq (rest_copy m c)) $$ Hpay
  icases Hp with ⟨Hx, Ha⟩
  imod (Rounds.cell_close ER (Rd m) (Set.mem_univ (K (copyIx c))) (fun h => h) (R := 0 + 1) (duties_later m (copyCell c))) $$ [Hat] with Hz
  · isplitr; · iapply (ctx_inv m K (kcell_copy c)); iexact Hc
    iexact Hat
  iapply Hk
  isplitl [HO]
  · isplitr; · iexact Hc
    iexists _; iexact HO
  isplitl [Hx]; · iexact Hx
  isplitl [Ha] <;> iassumption

/-- A semaphore that is not used at all may be closed at any time. -/
theorem close_unused {k : Dev nD × Fin 34} {g : GSem nD τ sig} (h : kcell k = g) (hR : ∀ r, 0 ≤ r → (Rd (F := F) m).duties g r = ∅) :
    iprop(ctx (F := F) m K ∗ atPos ER g 0 ∅ 0) ⊢ |={Set.univ}=> semVal g 0 :=
  (sep_mono_left (ctx_inv m K h)).trans (Rounds.cell_close ER (Rd m) (Set.mem_univ (K k)) (fun h => h) hR)

end Cert.Scan

end
-- ==== Proof.Rules.lean ====
/-
# The body's statements, one rule for each form

The unrolled body repeats a few forms of statement: the guarded signal, the guarded wait on the barrier, the guarded
transfer, the two guarded waits for transfers, the load and the store of a whole buffer. This module gives for each form
the rule that carries a proof past it. A guarded form moves its loop (`loopAt`) one step on.
-/
module

public import proofs.«01_k».proof.Proof.Steps

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The comparisons, the offsets and the semaphores the program computes -/

/-- The guard "the device's number is above `j`". -/
theorem cond_gt (c j : Dev nD) : Iff (Scalar.cmpi .ne (Scalar.extui (Scalar.cmpi .sgt (numW c) (BitVec.ofNat 32 j.val)) : BitVec 32) 0#32 = 1#1) (j < c) := by
  revert c j; decide +kernel

/-- The guard "the device's number is below `j`". -/
theorem cond_lt (c j : Dev nD) : Iff (Scalar.cmpi .ne (Scalar.extui (Scalar.cmpi .slt (numW c) (BitVec.ofNat 32 j.val)) : BitVec 32) 0#32 = 1#1) (c < j) := by
  revert c j; decide +kernel

/-- The guard "the device's number is `j`". -/
theorem cond_eq (c j : Dev nD) : Iff (Scalar.cmpi .ne (Scalar.extui (Scalar.cmpi .eq (numW c) (BitVec.ofNat 32 j.val)) : BitVec 32) 0#32 = 1#1) (j = c) := by
  revert c j; decide +kernel

/-- The device's number. -/
theorem num_toNat (c : Dev nD) : (numW c).toNat = c.val := by revert c; decide +kernel

theorem entry_inb (j : Dev nD) : ∀ a, (![j.val] : Fin 1 → ℕ) a + S1.size a ≤ S16.size a := by revert j; decide

/-- Entry `j` of the array of send semaphores, and of the array of receive semaphores. -/
theorem send_entry (j : Dev nD) (off : Fin 1 → ℕ) (hoff : off = ![j.val]) (inb : ∀ a, off a + S1.size a ≤ S16.size a) :
    ((cc0_scratch4.slice (Rect.unit (s := S16) off S1.size inb)).squeeze S_ squeezes_S1_S_).sem = sendQ j := by
  subst hoff
  have h : ∀ j : Dev nD, ((cc0_scratch4.slice (Rect.unit (s := S16) ![j.val] S1.size (entry_inb j))).squeeze S_ squeezes_S1_S_).sem = sendQ j := by
    decide +kernel
  exact h j
theorem recv_entry (j : Dev nD) (off : Fin 1 → ℕ) (hoff : off = ![j.val]) (inb : ∀ a, off a + S1.size a ≤ S16.size a) :
    ((cc0_scratch5.slice (Rect.unit (s := S16) off S1.size inb)).squeeze S_ squeezes_S1_S_).sem = recvQ j := by
  subst hoff
  have h : ∀ j : Dev nD, ((cc0_scratch5.slice (Rect.unit (s := S16) ![j.val] S1.size (entry_inb j))).squeeze S_ squeezes_S1_S_).sem = recvQ j := by
    decide +kernel
  exact h j

/-- The copy's semaphore. -/
theorem copy_entry : cc0_scratch3.sem = copyQ := by decide +kernel

/-! ## The loops -/

variable (m : (ℓ : Loc nD τ sig) → Buf (Elt F) ℓ) (K : Dev nD × Fin 34 → ℕ) (c : Dev nD)

/-- The five loops of device `c`, before step `j`: the signals to the earlier devices, the wait on the barrier (a step for
    each device but the last), the transfers to the later devices, the waits for the earlier devices' transfers and the
    waits for its own transfers. -/
def sigLoop (j : ℕ) : sProp 𝕄 :=
  loopAt (· < c) (fun j => carry m K c (owedRecv c 0 + owedBar c j)) (sigIn c) (fun _ => iprop(emp)) j
def barLoop (j : ℕ) : sProp 𝕄 :=
  loopAt (fun k : Dev nD => k = c ∧ k.val < 15) (fun _ => carry m K c (owedRecv c 0)) (fun _ => barIn c) (fun _ => barOut c) j
def sendLoop (j : ℕ) : sProp 𝕄 := loopAt (c < ·) (fun j => carry m K c (owedRecv c j)) (sendIn m c) (sendOut c) j
def recvLoop (j : ℕ) : sProp 𝕄 := loopAt (· < c) (fun _ => carry m K c 0) (recvIn c) (recvOut m c) j
def leftLoop (j : ℕ) : sProp 𝕄 := loopAt (c < ·) (fun _ => carry m K c 0) (leftIn c) (leftOut m c) j

variable {α : Type} {Q : α → sProp (MT nD τ sig Unit (Elt F) ℕ UU ℕ)} {k : Unit → Prog (TpuEff nD τ sig (Elt F) Λ₀ .tc) α}

/-- A guarded statement whose two branches both go on with `k` is the guarded statement followed by `k`. -/
theorem guard_rule {A : sProp (MT nD τ sig Unit (Elt F) ℕ UU ℕ)} {b : BitVec 1} {yes : b = 1#1 → Prog (TpuEff nD τ sig (Elt F) Λ₀ .tc) PUnit}
    (h : A ⊢ wp frame (wpE (defs₀ (F := F)) 𝒱₀ (c : Thread nD τ) none) Set.univ ((if h : b = 1#1 then yes h >>= fun _ => pure ⟨⟩ else pure ⟨⟩) >>= k) Q) :
    A ⊢ wp frame (wpE (defs₀ (F := F)) 𝒱₀ (c : Thread nD τ) none) Set.univ (if h : b = 1#1 then yes h >>= fun _ => k ⟨⟩ else k ⟨⟩) Q := by
  refine h.trans (Entails.of_eq ?_)
  by_cases hb : b = 1#1
  · rw [dif_pos hb, dif_pos hb, bind_assoc]; rfl
  · rw [dif_neg hb, dif_neg hb]; rfl

/-- The guarded signal to device `j`. -/
theorem sig_rule {j : ℕ} (hj : j < nD) {b : BitVec 1} (hb : Iff (b = 1#1) ((⟨j, hj⟩ : Dev nD) < c)) {n : b = 1#1 → Dev nD} (hn : ∀ h, n h = ⟨j, hj⟩)
    {R : sProp (MT nD τ sig Unit (Elt F) ℕ UU ℕ)}
    (hk : iprop(sigLoop m K c (j + 1) ∗ R) ⊢ wp frame (wpE (defs₀ (F := F)) 𝒱₀ (c : Thread nD τ) none) Set.univ (k ⟨⟩) Q) :
    iprop(sigLoop m K c j ∗ R) ⊢ wp frame (wpE (defs₀ (F := F)) 𝒱₀ (c : Thread nD τ) none) Set.univ
      (if h : b = 1#1 then do
          semSignalWord (n h) barS 1#32
          k ⟨⟩
        else k ⟨⟩) Q :=
  guard_rule c (k := k) (Q := Q) <| wp_chain 𝒱₀ c Set.univ (loop_step (· < c) 𝒱₀ c Set.univ (fun j => carry m K c (owedRecv c 0 + owedBar c j)) (sigIn c) (fun _ => iprop(emp))
    ⟨j, hj⟩ rfl hb (fun h => Entails.of_eq (congrArg (fun O => carry m K c (owedRecv c 0 + O)) (owedBar_neg c ⟨j, hj⟩ h)))
    (fun h h' => signal_step m K c ⟨j, hj⟩ h (n h') (hn h')) R) hk

/-- The guarded wait on the barrier, for as many units as there are devices after device `j`. -/
theorem bar_rule {j : ℕ} (hj : j < nD) (hj' : j < 15) {b : BitVec 1} (hb : Iff (b = 1#1) ((⟨j, hj⟩ : Dev nD) = c)) {w : BitVec 32}
    (hw : w.toInt = ((15 - j : ℕ) : ℤ)) {R : sProp (MT nD τ sig Unit (Elt F) ℕ UU ℕ)}
    (hk : iprop(barLoop m K c (j + 1) ∗ R) ⊢ wp frame (wpE (defs₀ (F := F)) 𝒱₀ (c : Thread nD τ) none) Set.univ (k ⟨⟩) Q) :
    iprop(barLoop m K c j ∗ R) ⊢ wp frame (wpE (defs₀ (F := F)) 𝒱₀ (c : Thread nD τ) none) Set.univ
      (if h : b = 1#1 then do
          semWaitWord barS w
          k ⟨⟩
        else k ⟨⟩) Q :=
  guard_rule c (k := k) (Q := Q) <| wp_chain 𝒱₀ c Set.univ (loop_step (fun k : Dev nD => k = c ∧ k.val < 15) 𝒱₀ c Set.univ (fun _ => carry m K c (owedRecv c 0)) (fun _ => barIn c) (fun _ => barOut c)
    ⟨j, hj⟩ rfl (hb.trans ⟨fun h => ⟨h, hj'⟩, fun h => h.1⟩) (fun _ => BI.Entails.refl _)
    (fun h h' => barrier_step m K c w (by rw [hw, ← h.1])) R) hk

/-- The guarded transfer to device `j`. -/
theorem send_rule {j : ℕ} (hj : j < nD) {b : BitVec 1} (hb : Iff (b = 1#1) (c < (⟨j, hj⟩ : Dev nD))) {n : b = 1#1 → Dev nD} (hn : ∀ h, n h = ⟨j, hj⟩)
    {offs offr : b = 1#1 → Fin 1 → ℕ} (hs : ∀ h, offs h = ![j]) (hr : ∀ h, offr h = ![c.val])
    {inbs : ∀ h a, offs h a + S1.size a ≤ S16.size a} {inbr : ∀ h a, offr h a + S1.size a ≤ S16.size a}
    {off : b = 1#1 → Fin 2 → ℕ} (ho : ∀ h, off h = ![c.val, 0]) {inb : ∀ h a, off h a + S1x256.size a ≤ S16x256.size a}
    {hsc : ∀ h, (commM.slice (Rect.unit (s := S16x256) (off h) S1x256.size (inb h)) (fun _ => rfl) : Memref sig (Dev.tc (n h) : Thread nD τ).2.kind .vmem S1x256 .f32).view.ref.isScScratch = false}
    {hsrc : (totM : Memref sig .tc .vmem S1x256 .f32).view.WordExact}
    {hdst : ∀ h, (commM.slice (Rect.unit (s := S16x256) (off h) S1x256.size (inb h)) (fun _ => rfl) : Memref sig .tc .vmem S1x256 .f32).view.WordExact}
    {hsem : ∀ h, DmaTarget.Typed .vmem (.dma ((cc0_scratch5.slice (Rect.unit (s := S16) (offr h) S1.size (inbr h))).squeeze S_ squeezes_S1_S_).sem)
      (.remote (Dev.tc (n h) : Thread nD τ) (commM.slice (Rect.unit (s := S16x256) (off h) S1x256.size (inb h)) (fun _ => rfl) : Memref sig .tc .vmem S1x256 .f32)
        (.dma ((cc0_scratch4.slice (Rect.unit (s := S16) (offs h) S1.size (inbs h))).squeeze S_ squeezes_S1_S_).sem) (hsc h))}
    {R : sProp (MT nD τ sig Unit (Elt F) ℕ UU ℕ)}
    (hk : iprop(sendLoop m K c (j + 1) ∗ R) ⊢ wp frame (wpE (defs₀ (F := F)) 𝒱₀ (c : Thread nD τ) none) Set.univ (k ⟨⟩) Q) :
    iprop(sendLoop m K c j ∗ R) ⊢ wp frame (wpE (defs₀ (F := F)) 𝒱₀ (c : Thread nD τ) none) Set.univ
      (if h : b = 1#1 then do
          Prog.lift (.enqueueDma totM (.remote (Dev.tc (n h) : Thread nD τ) (commM.slice (Rect.unit (s := S16x256) (off h) S1x256.size (inb h)) (fun _ => rfl) : Memref sig .tc .vmem S1x256 .f32)
              (.dma ((cc0_scratch4.slice (Rect.unit (s := S16) (offs h) S1.size (inbs h))).squeeze S_ squeezes_S1_S_).sem) (hsc h))
            (.dma ((cc0_scratch5.slice (Rect.unit (s := S16) (offr h) S1.size (inbr h))).squeeze S_ squeezes_S1_S_).sem) hsrc (hdst h) (hsem h))
          k ⟨⟩
        else k ⟨⟩) Q :=
  guard_rule c (k := k) (Q := Q) <| wp_chain 𝒱₀ c Set.univ (loop_step (c < ·) 𝒱₀ c Set.univ (fun j => carry m K c (owedRecv c j)) (sendIn m c) (sendOut c)
    ⟨j, hj⟩ rfl hb (fun h => Entails.of_eq (congrArg (carry m K c) (owedRecv_neg c ⟨j, hj⟩ h)))
    (fun h h' => send_step m K c ⟨j, hj⟩ h (n h') (hn h') _ _ (send_entry ⟨j, hj⟩ _ (hs h') _) (recv_entry c _ (hr h') _) _ (ho h') (inb h')) R) hk

/-- The guarded wait for the transfer from device `j`. -/
theorem recv_rule {j : ℕ} (hj : j < nD) {b : BitVec 1} (hb : Iff (b = 1#1) ((⟨j, hj⟩ : Dev nD) < c))
    {offr : b = 1#1 → Fin 1 → ℕ} (hr : ∀ h, offr h = ![j]) {inbr : ∀ h a, offr h a + S1.size a ≤ S16.size a}
    {off : b = 1#1 → Fin 2 → ℕ} {inb : ∀ h a, off h a + S1x256.size a ≤ S16x256.size a}
    {hsrc : (totM : Memref sig .tc .vmem S1x256 .f32).view.WordExact}
    {hdst : ∀ h, (commM.slice (Rect.unit (s := S16x256) (off h) S1x256.size (inb h)) (fun _ => rfl) : Memref sig .tc .vmem S1x256 .f32).view.WordExact}
    {R : sProp (MT nD τ sig Unit (Elt F) ℕ UU ℕ)}
    (hk : iprop(recvLoop m K c (j + 1) ∗ R) ⊢ wp frame (wpE (defs₀ (F := F)) 𝒱₀ (c : Thread nD τ) none) Set.univ (k ⟨⟩) Q) :
    iprop(recvLoop m K c j ∗ R) ⊢ wp frame (wpE (defs₀ (F := F)) 𝒱₀ (c : Thread nD τ) none) Set.univ
      (if h : b = 1#1 then do
          Prog.lift (.waitDma2 ((cc0_scratch5.slice (Rect.unit (s := S16) (offr h) S1.size (inbr h))).squeeze S_ squeezes_S1_S_).sem totM
            (commM.slice (Rect.unit (s := S16x256) (off h) S1x256.size (inb h)) (fun _ => rfl) : Memref sig .tc .vmem S1x256 .f32) hsrc (hdst h))
          k ⟨⟩
        else k ⟨⟩) Q :=
  guard_rule c (k := k) (Q := Q) <| wp_chain 𝒱₀ c Set.univ (loop_step (· < c) 𝒱₀ c Set.univ (fun _ => carry m K c 0) (recvIn c) (recvOut m c)
    ⟨j, hj⟩ rfl hb (fun _ => BI.Entails.refl _)
    (fun h h' => recv_step m K c ⟨j, hj⟩ h _ (recv_entry ⟨j, hj⟩ _ (hr h') _) (off h') (inb h')) R) hk

/-- The guarded wait for the device's own transfer to device `j` to have left. -/
theorem left_rule {j : ℕ} (hj : j < nD) {b : BitVec 1} (hb : Iff (b = 1#1) (c < (⟨j, hj⟩ : Dev nD)))
    {offs : b = 1#1 → Fin 1 → ℕ} (hs : ∀ h, offs h = ![j]) {inbs : ∀ h a, offs h a + S1.size a ≤ S16.size a}
    {off : b = 1#1 → Fin 2 → ℕ} {inb : ∀ h a, off h a + S1x256.size a ≤ S16x256.size a}
    {hdst : (totM : Memref sig .tc .vmem S1x256 .f32).view.WordExact}
    {hsrc : ∀ h, (commM.slice (Rect.unit (s := S16x256) (off h) S1x256.size (inb h)) (fun _ => rfl) : Memref sig .tc .vmem S1x256 .f32).view.WordExact}
    {R : sProp (MT nD τ sig Unit (Elt F) ℕ UU ℕ)}
    (hk : iprop(leftLoop m K c (j + 1) ∗ R) ⊢ wp frame (wpE (defs₀ (F := F)) 𝒱₀ (c : Thread nD τ) none) Set.univ (k ⟨⟩) Q) :
    iprop(leftLoop m K c j ∗ R) ⊢ wp frame (wpE (defs₀ (F := F)) 𝒱₀ (c : Thread nD τ) none) Set.univ
      (if h : b = 1#1 then do
          Prog.lift (.waitDma2 ((cc0_scratch4.slice (Rect.unit (s := S16) (offs h) S1.size (inbs h))).squeeze S_ squeezes_S1_S_).sem
            (commM.slice (Rect.unit (s := S16x256) (off h) S1x256.size (inb h)) (fun _ => rfl) : Memref sig .tc .vmem S1x256 .f32) totM (hsrc h) hdst)
          k ⟨⟩
        else k ⟨⟩) Q :=
  guard_rule c (k := k) (Q := Q) <| wp_chain 𝒱₀ c Set.univ (loop_step (c < ·) 𝒱₀ c Set.univ (fun _ => carry m K c 0) (leftIn c) (leftOut m c)
    ⟨j, hj⟩ rfl hb (fun _ => BI.Entails.refl _)
    (fun h h' => left_step m K c ⟨j, hj⟩ h _ (send_entry ⟨j, hj⟩ _ (hs h') _) (off h') (inb h')) R) hk

/-! ## The statements outside the loops -/

/-- Reading the device's number. -/
theorem dev_rule {A : sProp (MT nD τ sig Unit (Elt F) ℕ UU ℕ)} {k : Dev nD → Prog (TpuEff nD τ sig (Elt F) Λ₀ .tc) α}
    (hk : A ⊢ wp frame (wpE (defs₀ (F := F)) 𝒱₀ (c : Thread nD τ) none) Set.univ (k c) Q) :
    A ⊢ wp frame (wpE (defs₀ (F := F)) 𝒱₀ (c : Thread nD τ) none) Set.univ (Prog.lift .deviceId >>= k) Q := by
  simp only [Prog.lift, Prog.bind_op, Prog.bind_ret, wp_deviceId]
  exact hk

/-- Starting the copy of the argument. -/
theorem copy_rule {q : DmaSem sig} (hq : q = copyQ) {hsrc : (argM : Memref sig .tc .hbm S256x256 .f32).view.WordExact} {hdst : (xM : Memref sig .tc .vmem S256x256 .f32).view.WordExact}
    {hsem : DmaTarget.Typed (nD := nD) (τ := τ) (p := Proc.tc) .hbm (.dma q) (.here (xM : Memref sig .tc .vmem S256x256 .f32))}
    (f : (cc0_scratch0 : Ref sig .tc).ty.Contents (Elt F)) {R : sProp (MT nD τ sig Unit (Elt F) ℕ UU ℕ)}
    (hk : iprop(cred (tallyAt (copyCell c) () NX) ∗ R) ⊢ wp frame (wpE (defs₀ (F := F)) 𝒱₀ (c : Thread nD τ) none) Set.univ (k ⟨⟩) Q) :
    iprop((ctx m K ∗ argPts m c ∗ (xM.view.loc (c : Thread nD τ) ↦[xM.view.set]{fullShare} f) ∗ dutyTok ER (copyCell c) 0 c) ∗ R)
      ⊢ wp frame (wpE (defs₀ (F := F)) 𝒱₀ (c : Thread nD τ) none) Set.univ (Prog.lift (.enqueueDma argM (.here xM) (.dma q) hsrc hdst hsem) >>= k) Q := by
  subst hq
  simp only [Prog.lift, Prog.bind_op, Prog.bind_ret]
  iintro ⟨H, HR⟩
  iapply (copy_start m K c f) $$ H
  iintro Hc
  iapply hk
  isplitl [Hc] <;> iassumption

/-- Waiting for it. -/
theorem copied_rule {q : DmaSem sig} (hq : q = copyQ) {hsrc : (argM : Memref sig .tc .hbm S256x256 .f32).view.WordExact} {hdst : (xM : Memref sig .tc .vmem S256x256 .f32).view.WordExact}
    {R : sProp (MT nD τ sig Unit (Elt F) ℕ UU ℕ)}
    (hk : iprop((carry m K c (owedRecv c 0) ∗ xPts m c ∗ argPts m c ∗ semVal (copyCell c) 0) ∗ R)
      ⊢ wp frame (wpE (defs₀ (F := F)) 𝒱₀ (c : Thread nD τ) none) Set.univ (k ⟨⟩) Q) :
    iprop((carry m K c (owedRecv c 0) ∗ cred (tallyAt (copyCell c) () NX) ∗ atPos ER (copyCell c) 0 ∅ 0) ∗ R)
      ⊢ wp frame (wpE (defs₀ (F := F)) 𝒱₀ (c : Thread nD τ) none) Set.univ (Prog.lift (.waitDma2 q argM xM hsrc hdst) >>= k) Q := by
  subst hq
  simp only [Prog.lift, Prog.bind_op, Prog.bind_ret]
  iintro ⟨H, HR⟩
  iapply (copy_wait m K c) $$ H
  iintro Hc
  iapply hk
  isplitl [Hc] <;> iassumption

/-- A buffer of the device, whole. -/
abbrev wholePts (b : Ref sig .tc) (f : b.ty.Contents (Elt F)) : sProp (MT nD τ sig Unit (Elt F) ℕ UU ℕ) :=
  ((c : Thread nD τ).loc b) ↦{fullShare} f

theorem xPts_eq : xPts m c = wholePts c cc0_scratch0 (xAt m c) := by
  unfold xPts; rw [show (xM : Memref sig .tc .vmem S256x256 .f32).view.set = Finset.univ from View.set_whole _]

/-- The load of the argument's copy. -/
theorem loadX_rule {k : Vec F S256x256 .f32 → Prog (TpuEff nD τ sig (Elt F) Λ₀ .tc) α}
    {hl : (xM : Memref sig .tc .vmem S256x256 .f32).view.LoadsAt (Rect.unit (s := S256x256) ![0, 0] S256x256.size inb_S256x256_S256x256_0_0).toLoadRect}
    {R : sProp (MT nD τ sig Unit (Elt F) ℕ UU ℕ)}
    (hk : iprop(xPts m c ∗ R) ⊢ wp frame (wpE (defs₀ (F := F)) 𝒱₀ (c : Thread nD τ) none) Set.univ (k (xAt m c)) Q) :
    iprop(xPts m c ∗ R) ⊢ wp frame (wpE (defs₀ (F := F)) 𝒱₀ (c : Thread nD τ) none) Set.univ
      (Prog.lift (.load xM (Rect.unit (s := S256x256) ![0, 0] S256x256.size inb_S256x256_S256x256_0_0).toLoadRect hl) >>= k) Q := by
  rw [xPts_eq] at hk ⊢
  simp only [Prog.lift, Prog.bind_op, Prog.bind_ret]
  iintro ⟨H, HR⟩
  iapply (wp_load 𝒱₀ (c : Thread nD τ) none Set.univ (m := xM) (Finset.subset_univ _)) $$ H; iintro H
  rw [show xM.view.readAt (Elt F) (Rect.unit (s := S256x256) ![0, 0] S256x256.size inb_S256x256_S256x256_0_0).toLoadRect (xAt m c) = xAt m c from
    Memref.readAt_unit_zero (Elt F) cc0_scratch0 hz _ _]
  iapply hk
  isplitl [H] <;> iassumption

/-- The load of the sixteen rows. -/
theorem loadComm_rule {k : Vec F S16x256 .f32 → Prog (TpuEff nD τ sig (Elt F) Λ₀ .tc) α} (g : Vec F S16x256 .f32)
    {hl : (commM : Memref sig .tc .vmem S16x256 .f32).view.LoadsAt (Rect.unit (s := S16x256) ![0, 0] S16x256.size inb_S16x256_S16x256_0_0).toLoadRect}
    {R : sProp (MT nD τ sig Unit (Elt F) ℕ UU ℕ)}
    (hk : iprop(wholePts c cc0_scratch1 g ∗ R) ⊢ wp frame (wpE (defs₀ (F := F)) 𝒱₀ (c : Thread nD τ) none) Set.univ (k g) Q) :
    iprop(wholePts c cc0_scratch1 g ∗ R) ⊢ wp frame (wpE (defs₀ (F := F)) 𝒱₀ (c : Thread nD τ) none) Set.univ
      (Prog.lift (.load commM (Rect.unit (s := S16x256) ![0, 0] S16x256.size inb_S16x256_S16x256_0_0).toLoadRect hl) >>= k) Q := by
  simp only [Prog.lift, Prog.bind_op, Prog.bind_ret]
  iintro ⟨H, HR⟩
  iapply (wp_load 𝒱₀ (c : Thread nD τ) none Set.univ (m := commM) (Finset.subset_univ _)) $$ H; iintro H
  rw [show commM.view.readAt (Elt F) (Rect.unit (s := S16x256) ![0, 0] S16x256.size inb_S16x256_S16x256_0_0).toLoadRect g = g from
    Memref.readAt_unit_zero (Elt F) cc0_scratch1 hz _ _]
  iapply hk
  isplitl [H] <;> iassumption

/-- The load of the one-row buffer before it is written, and the store into it. -/
theorem loadTot_rule {k : Vec F S1x256 .f32 → Prog (TpuEff nD τ sig (Elt F) Λ₀ .tc) α} (g : Vec F S1x256 .f32)
    {hl : (totM : Memref sig .tc .vmem S1x256 .f32).view.LoadsAt (Rect.unit (s := S1x256) ![0, 0] S1x256.size inb_S1x256_S1x256_0_0).toLoadRect}
    {R : sProp (MT nD τ sig Unit (Elt F) ℕ UU ℕ)}
    (hk : ∀ v, iprop(wholePts c cc0_scratch2 g ∗ R) ⊢ wp frame (wpE (defs₀ (F := F)) 𝒱₀ (c : Thread nD τ) none) Set.univ (k v) Q) :
    iprop(wholePts c cc0_scratch2 g ∗ R) ⊢ wp frame (wpE (defs₀ (F := F)) 𝒱₀ (c : Thread nD τ) none) Set.univ
      (Prog.lift (.load totM (Rect.unit (s := S1x256) ![0, 0] S1x256.size inb_S1x256_S1x256_0_0).toLoadRect hl) >>= k) Q := by
  simp only [Prog.lift, Prog.bind_op, Prog.bind_ret]
  iintro ⟨H, HR⟩
  iapply (wp_load 𝒱₀ (c : Thread nD τ) none Set.univ (m := totM) (Finset.subset_univ _)) $$ H; iintro H
  iapply (hk _)
  isplitl [H] <;> iassumption

theorem storeTot_rule (g w : Vec F S1x256 .f32)
    {hx : ((totM : Memref sig .tc .vmem S1x256 .f32).access (Rect.unit (s := S1x256) ![0, 0] S1x256.size inb_S1x256_S1x256_0_0)).Stores Finset.univ}
    {hm : (Finset.univ : Finset (Rect.unit (s := S1x256) ![0, 0] S1x256.size inb_S1x256_S1x256_0_0).shape.Idx) = Finset.univ ∨ ∀ a, (Rect.unit (s := S1x256) ![0, 0] S1x256.size inb_S1x256_S1x256_0_0).stride a = 1}
    {R : sProp (MT nD τ sig Unit (Elt F) ℕ UU ℕ)}
    (hk : iprop(wholePts c cc0_scratch2 w ∗ R) ⊢ wp frame (wpE (defs₀ (F := F)) 𝒱₀ (c : Thread nD τ) none) Set.univ (k ⟨⟩) Q) :
    iprop(wholePts c cc0_scratch2 g ∗ R) ⊢ wp frame (wpE (defs₀ (F := F)) 𝒱₀ (c : Thread nD τ) none) Set.univ
      (Prog.lift (.store totM (Rect.unit (s := S1x256) ![0, 0] S1x256.size inb_S1x256_S1x256_0_0) w Finset.univ hx hm) >>= k) Q := by
  simp only [Prog.lift, Prog.bind_op, Prog.bind_ret]
  iintro ⟨H, HR⟩
  iapply (wp_store 𝒱₀ (c : Thread nD τ) none Set.univ (m := totM) (r := Rect.unit (s := S1x256) ![0, 0] S1x256.size inb_S1x256_S1x256_0_0)
    (Mk := Finset.univ) (Finset.subset_univ _)) $$ H; iintro H
  rw [show ((totM : Memref sig .tc .vmem S1x256 .f32).access (Rect.unit (s := S1x256) ![0, 0] S1x256.size inb_S1x256_S1x256_0_0)).write (Elt F) g w Finset.univ = w from
    Memref.write_access_unit_zero_univ (Elt F) cc0_scratch2 hz _ _ _]
  iapply hk
  isplitl [H] <;> iassumption

/-- The load of the result's buffer before it is written, and the store into it. -/
theorem loadOut_rule {k : Vec F S256x256 .f32 → Prog (TpuEff nD τ sig (Elt F) Λ₀ .tc) α} (g : Vec F S256x256 .f32)
    {hl : (outM : Memref sig .tc .vmem S256x256 .f32).view.LoadsAt (Rect.unit (s := S256x256) ![0, 0] S256x256.size inb_S256x256_S256x256_0_0).toLoadRect}
    {R : sProp (MT nD τ sig Unit (Elt F) ℕ UU ℕ)}
    (hk : ∀ v, iprop(wholePts c cc0_stg0_0 g ∗ R) ⊢ wp frame (wpE (defs₀ (F := F)) 𝒱₀ (c : Thread nD τ) none) Set.univ (k v) Q) :
    iprop(wholePts c cc0_stg0_0 g ∗ R) ⊢ wp frame (wpE (defs₀ (F := F)) 𝒱₀ (c : Thread nD τ) none) Set.univ
      (Prog.lift (.load outM (Rect.unit (s := S256x256) ![0, 0] S256x256.size inb_S256x256_S256x256_0_0).toLoadRect hl) >>= k) Q := by
  simp only [Prog.lift, Prog.bind_op, Prog.bind_ret]
  iintro ⟨H, HR⟩
  iapply (wp_load 𝒱₀ (c : Thread nD τ) none Set.univ (m := outM) (Finset.subset_univ _)) $$ H; iintro H
  iapply (hk _)
  isplitl [H] <;> iassumption

theorem storeOut_rule (g w : Vec F S256x256 .f32)
    {hx : ((outM : Memref sig .tc .vmem S256x256 .f32).access (Rect.unit (s := S256x256) ![0, 0] S256x256.size inb_S256x256_S256x256_0_0)).Stores Finset.univ}
    {hm : (Finset.univ : Finset (Rect.unit (s := S256x256) ![0, 0] S256x256.size inb_S256x256_S256x256_0_0).shape.Idx) = Finset.univ ∨ ∀ a, (Rect.unit (s := S256x256) ![0, 0] S256x256.size inb_S256x256_S256x256_0_0).stride a = 1}
    {R : sProp (MT nD τ sig Unit (Elt F) ℕ UU ℕ)}
    (hk : iprop(wholePts c cc0_stg0_0 w ∗ R) ⊢ wp frame (wpE (defs₀ (F := F)) 𝒱₀ (c : Thread nD τ) none) Set.univ (k ⟨⟩) Q) :
    iprop(wholePts c cc0_stg0_0 g ∗ R) ⊢ wp frame (wpE (defs₀ (F := F)) 𝒱₀ (c : Thread nD τ) none) Set.univ
      (Prog.lift (.store outM (Rect.unit (s := S256x256) ![0, 0] S256x256.size inb_S256x256_S256x256_0_0) w Finset.univ hx hm) >>= k) Q := by
  simp only [Prog.lift, Prog.bind_op, Prog.bind_ret]
  iintro ⟨H, HR⟩
  iapply (wp_store 𝒱₀ (c : Thread nD τ) none Set.univ (m := outM) (r := Rect.unit (s := S256x256) ![0, 0] S256x256.size inb_S256x256_S256x256_0_0)
    (Mk := Finset.univ) (Finset.subset_univ _)) $$ H; iintro H
  rw [show ((outM : Memref sig .tc .vmem S256x256 .f32).access (Rect.unit (s := S256x256) ![0, 0] S256x256.size inb_S256x256_S256x256_0_0)).write (Elt F) g w Finset.univ = w from
    Memref.write_access_unit_zero_univ (Elt F) cc0_stg0_0 hz _ _ _]
  iapply hk
  isplitl [H] <;> iassumption

/-- A fragment that ends, returning `a`. -/
theorem ret_rule {A : sProp (MT nD τ sig Unit (Elt F) ℕ UU ℕ)} (a : α) (h : A ⊢ Q a) :
    A ⊢ wp frame (wpE (defs₀ (F := F)) 𝒱₀ (c : Thread nD τ) none) Set.univ (pure a : Prog (TpuEff nD τ sig (Elt F) Λ₀ .tc) α) Q :=
  h.trans (le_wp_ret _ _ _ a Q)

end Cert.Scan

end
-- ==== Proof.Parts.lean ====
/-
# The body, part by part

The program's body is printed in parts, each a straight run of statements. This module carries the five loops through the
parts: which loop is at which step at a part's start and at its end, and what else changes hands there.
-/
module

public import proofs.«01_k».proof.Proof.Rules

@[expose] public section

set_option maxRecDepth 16384
set_option maxHeartbeats 4000000

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 34 → ℕ) (c : Dev nD)

/-- The barrier semaphore as the program names it. -/
abbrev barA : Sems sig S_ := SemArray.scalar (sig.barrier 0 rfl)

/-- The word a part hands to the next when it has computed a guard halfway. -/
abbrev half (p : CmpIPredicate) (w : BitVec 32) : BitVec 32 := Scalar.extui (Scalar.cmpi p (numW c) w)

/-- The device's number as the one entry of an offset, and as the first of two. -/
theorem off_one : (![(numW c).toNat] : Fin 1 → ℕ) = ![c.val] := by rw [num_toNat]
theorem off_two : (![(numW c).toNat, 0] : Fin 2 → ℕ) = ![c.val, 0] := by rw [num_toNat]

variable {R R₁ : sProp (MT nD τ sig Unit (Elt F) ℕ UU ℕ)}

/-- Part 1 starts the copy of the argument and signals to the devices 0 to 7. -/
theorem part1 (f : (cc0_scratch0 : Ref sig .tc).ty.Contents (Elt F)) {Q : _ → sProp (MT nD τ sig Unit (Elt F) ℕ UU ℕ)}
    (hk : iprop(sigLoop m K c 8 ∗ cred (tallyAt (copyCell c) () NX) ∗ R) ⊢ Q ⟨c, numW c, barA, half c .sgt 8#32, 0#32⟩) :
    iprop((ctx m K ∗ argPts m c ∗ (xM.view.loc (c : Thread nD τ) ↦[xM.view.set]{fullShare} f) ∗ dutyTok ER (copyCell c) 0 c) ∗ sigLoop m K c 0 ∗ R)
      ⊢ wp frame (wpE (defs₀ (F := F)) 𝒱₀ (c : Thread nD τ) none) Set.univ
          (k0_part1 argM (Memref.isWhole_whole _) outM (Memref.isWhole_whole _) xM (Memref.isWhole_whole _) commM (Memref.isWhole_whole _) totM (Memref.isWhole_whole _) cc0_scratch3 cc0_scratch4 cc0_scratch5) Q := by
  rw [k0_part1_eq_skeleton]
  unfold k0_part1_skel
  refine dev_rule c ?_
  extract_lets
  refine copy_rule m K c copy_entry f ?_
  have hs : iprop(cred (tallyAt (copyCell c) () NX) ∗ sigLoop m K c 0 ∗ R) ⊢ iprop(sigLoop m K c 0 ∗ cred (tallyAt (copyCell c) () NX) ∗ R) := by
    iintro ⟨H1, H2, H3⟩
    isplitl [H2]; · iexact H2
    isplitl [H1] <;> iassumption
  refine hs.trans ?_
  iterate 8 refine sig_rule m K c (by decide) (cond_gt c _) (fun _ => rfl) ?_
  exact ret_rule c _ hk

/-- Part 2 signals to the devices 8 to 15, waits for the copy and stores the column sums. -/
theorem part2 (g : Vec F S1x256 .f32) {Q : _ → sProp (MT nD τ sig Unit (Elt F) ℕ UU ℕ)}
    (hmid : iprop(sigLoop m K c 16 ∗ R) ⊢ iprop((carry m K c (owedRecv c 0) ∗ cred (tallyAt (copyCell c) () NX) ∗ atPos ER (copyCell c) 0 ∅ 0)
      ∗ wholePts c cc0_scratch2 g ∗ R₁))
    (hk : iprop(wholePts c cc0_scratch2 (k0_pay1 (xAt m c)) ∗ xPts m c ∗ carry m K c (owedRecv c 0) ∗ argPts m c ∗ semVal (copyCell c) 0 ∗ R₁)
      ⊢ Q (half c .eq 0#32)) :
    iprop(sigLoop m K c 8 ∗ R) ⊢ wp frame (wpE (defs₀ (F := F)) 𝒱₀ (c : Thread nD τ) none) Set.univ
      (k0_part2 argM (Memref.isWhole_whole _) outM (Memref.isWhole_whole _) xM (Memref.isWhole_whole _) commM (Memref.isWhole_whole _) totM (Memref.isWhole_whole _) cc0_scratch3 cc0_scratch4 cc0_scratch5 c (numW c) barA (half c .sgt 8#32) 0#32) Q := by
  rw [k0_part2_eq_skeleton]
  unfold k0_part2_skel
  extract_lets
  iterate 8 refine sig_rule m K c (by decide) (cond_gt c _) (fun _ => rfl) ?_
  refine hmid.trans ?_
  refine copied_rule m K c copy_entry ?_
  have h₁ : iprop((carry m K c (owedRecv c 0) ∗ xPts m c ∗ argPts m c ∗ semVal (copyCell c) 0) ∗ wholePts c cc0_scratch2 g ∗ R₁)
      ⊢ iprop(xPts m c ∗ wholePts c cc0_scratch2 g ∗ carry m K c (owedRecv c 0) ∗ argPts m c ∗ semVal (copyCell c) 0 ∗ R₁) := by
    iintro ⟨⟨H1, H2, H3, H4⟩, H5, H6⟩
    isplitl [H2]; · iexact H2
    isplitl [H5]; · iexact H5
    isplitl [H1]; · iexact H1
    isplitl [H3]; · iexact H3
    isplitl [H4] <;> iassumption
  refine h₁.trans ?_
  refine loadX_rule m c ?_
  have h₂ : iprop(xPts m c ∗ wholePts c cc0_scratch2 g ∗ carry m K c (owedRecv c 0) ∗ argPts m c ∗ semVal (copyCell c) 0 ∗ R₁)
      ⊢ iprop(wholePts c cc0_scratch2 g ∗ xPts m c ∗ carry m K c (owedRecv c 0) ∗ argPts m c ∗ semVal (copyCell c) 0 ∗ R₁) := by
    iintro ⟨H1, H2, H3⟩
    isplitl [H2]; · iexact H2
    isplitl [H1] <;> iassumption
  refine h₂.trans ?_
  refine loadTot_rule c g fun v => ?_
  refine storeTot_rule c g _ ?_
  exact ret_rule c _ hk

/-- Part 3 goes through the first ten guarded waits on the barrier. -/
theorem part3 {Q : _ → sProp (MT nD τ sig Unit (Elt F) ℕ UU ℕ)}
    (hk : iprop(barLoop m K c 10 ∗ R) ⊢ Q (half c .eq 10#32)) :
    iprop(barLoop m K c 0 ∗ R) ⊢ wp frame (wpE (defs₀ (F := F)) 𝒱₀ (c : Thread nD τ) none) Set.univ
      (k0_part3 argM (Memref.isWhole_whole _) outM (Memref.isWhole_whole _) xM (Memref.isWhole_whole _) commM (Memref.isWhole_whole _) totM (Memref.isWhole_whole _) cc0_scratch3 cc0_scratch4 cc0_scratch5 (numW c) barA (half c .eq 0#32)) Q := by
  rw [k0_part3_eq_skeleton]
  unfold k0_part3_skel
  extract_lets
  iterate 10 refine bar_rule m K c (by decide) (by decide) (cond_eq c _) (by rfl) ?_
  exact ret_rule c _ hk

/-- Part 4 goes through the other five, then sends to the devices 0 to 4. -/
theorem part4 {Q : _ → sProp (MT nD τ sig Unit (Elt F) ℕ UU ℕ)}
    (hmid : iprop(barLoop m K c 15 ∗ R) ⊢ iprop(sendLoop m K c 0 ∗ R₁))
    (hk : iprop(sendLoop m K c 5 ∗ R₁) ⊢ Q (half c .slt 5#32)) :
    iprop(barLoop m K c 10 ∗ R) ⊢ wp frame (wpE (defs₀ (F := F)) 𝒱₀ (c : Thread nD τ) none) Set.univ
      (k0_part4 argM (Memref.isWhole_whole _) outM (Memref.isWhole_whole _) xM (Memref.isWhole_whole _) commM (Memref.isWhole_whole _) totM (Memref.isWhole_whole _) cc0_scratch3 cc0_scratch4 cc0_scratch5 c (numW c) barA (half c .eq 10#32)) Q := by
  rw [k0_part4_eq_skeleton]
  unfold k0_part4_skel
  extract_lets
  iterate 5 refine bar_rule m K c (by decide) (by decide) (cond_eq c _) (by rfl) ?_
  refine hmid.trans ?_
  iterate 5 refine send_rule m K c (by decide) (cond_lt c _) (fun _ => rfl) (fun _ => rfl) (fun _ => off_one c) (fun _ => off_two c) ?_
  exact ret_rule c _ hk

/-- Part 5 sends to the devices 5 to 14. -/
theorem part5 {Q : _ → sProp (MT nD τ sig Unit (Elt F) ℕ UU ℕ)}
    (hk : iprop(sendLoop m K c 15 ∗ R) ⊢ Q (half c .slt 15#32)) :
    iprop(sendLoop m K c 5 ∗ R) ⊢ wp frame (wpE (defs₀ (F := F)) 𝒱₀ (c : Thread nD τ) none) Set.univ
      (k0_part5 argM (Memref.isWhole_whole _) outM (Memref.isWhole_whole _) xM (Memref.isWhole_whole _) commM (Memref.isWhole_whole _) totM (Memref.isWhole_whole _) cc0_scratch3 cc0_scratch4 cc0_scratch5 c (numW c) (half c .slt 5#32)) Q := by
  rw [k0_part5_eq_skeleton]
  unfold k0_part5_skel
  extract_lets
  iterate 10 refine send_rule m K c (by decide) (cond_lt c _) (fun _ => rfl) (fun _ => rfl) (fun _ => off_one c) (fun _ => off_two c) ?_
  exact ret_rule c _ hk

/-- Part 6 sends to device 15, computes the running sums of the device's own rows and waits for the transfers of the
    devices 0 to 6. -/
theorem part6 {Q : _ → sProp (MT nD τ sig Unit (Elt F) ℕ UU ℕ)}
    (hmid : iprop(sendLoop m K c 16 ∗ R) ⊢ iprop(xPts m c ∗ recvLoop m K c 0 ∗ R₁))
    (hk : iprop(recvLoop m K c 7 ∗ xPts m c ∗ R₁) ⊢ Q ⟨k0_pay2 (xAt m c), Scalar.cmpi .ne (half c .sgt 7#32) 0#32⟩) :
    iprop(sendLoop m K c 15 ∗ R) ⊢ wp frame (wpE (defs₀ (F := F)) 𝒱₀ (c : Thread nD τ) none) Set.univ
      (k0_part6 argM (Memref.isWhole_whole _) outM (Memref.isWhole_whole _) xM (Memref.isWhole_whole _) commM (Memref.isWhole_whole _) totM (Memref.isWhole_whole _) cc0_scratch3 cc0_scratch4 cc0_scratch5 c (numW c) (half c .slt 15#32)) Q := by
  rw [k0_part6_eq_skeleton]
  unfold k0_part6_skel
  extract_lets
  refine send_rule m K c (by decide) (cond_lt c _) (fun _ => rfl) (fun _ => rfl) (fun _ => off_one c) (fun _ => off_two c) ?_
  refine hmid.trans ?_
  refine loadX_rule m c ?_
  have h₁ : iprop(xPts m c ∗ recvLoop m K c 0 ∗ R₁) ⊢ iprop(recvLoop m K c 0 ∗ xPts m c ∗ R₁) := by
    iintro ⟨H1, H2, H3⟩
    isplitl [H2]; · iexact H2
    isplitl [H1] <;> iassumption
  refine h₁.trans ?_
  extract_lets
  iterate 7 refine recv_rule m K c (by decide) (cond_gt c _) (fun _ => rfl) ?_
  exact ret_rule c _ hk

/-- Part 7 waits for the transfers of the devices 7 to 15 and sums the rows of the earlier devices. -/
theorem part7 (P : Vec F S16x256 .f32 → Prop) {Q : _ → sProp (MT nD τ sig Unit (Elt F) ℕ UU ℕ)}
    (hmid : iprop(recvLoop m K c 16 ∗ R) ⊢ iprop(∃ g : Vec F S16x256 .f32, ⌜P g⌝ ∗ wholePts c cc0_scratch1 g ∗ R₁))
    (hk : ∀ g, P g → iprop(wholePts c cc0_scratch1 g ∗ R₁) ⊢ Q (k0_pay3 (numW c) g)) :
    iprop(recvLoop m K c 7 ∗ R) ⊢ wp frame (wpE (defs₀ (F := F)) 𝒱₀ (c : Thread nD τ) none) Set.univ
      (k0_part7 argM (Memref.isWhole_whole _) outM (Memref.isWhole_whole _) xM (Memref.isWhole_whole _) commM (Memref.isWhole_whole _) totM (Memref.isWhole_whole _) cc0_scratch3 cc0_scratch4 cc0_scratch5 (numW c) (Scalar.cmpi .ne (half c .sgt 7#32) 0#32)) Q := by
  rw [k0_part7_eq_skeleton]
  unfold k0_part7_skel
  extract_lets
  iterate 9 refine recv_rule m K c (by decide) (cond_gt c _) (fun _ => rfl) ?_
  refine hmid.trans ?_
  iintro ⟨%g, %hg, H⟩
  iapply (loadComm_rule (R := R₁) c g ?_) $$ H
  exact ret_rule c _ (hk g hg)

/-- Part 8 stores the result and waits for the first eight of the device's own transfers to have left. -/
theorem part8 (g : Vec F S256x256 .f32) (v157 : FVec F S256x256 .f32) (v212 : FVec F S256 .f32) {Q : _ → sProp (MT nD τ sig Unit (Elt F) ℕ UU ℕ)}
    (hk : iprop(leftLoop m K c 8 ∗ wholePts c cc0_stg0_0 (k0_pay4 v157 v212) ∗ R) ⊢ Q ⟨⟩) :
    iprop(wholePts c cc0_stg0_0 g ∗ leftLoop m K c 0 ∗ R) ⊢ wp frame (wpE (defs₀ (F := F)) 𝒱₀ (c : Thread nD τ) none) Set.univ
      (k0_part8 argM (Memref.isWhole_whole _) outM (Memref.isWhole_whole _) xM (Memref.isWhole_whole _) commM (Memref.isWhole_whole _) totM (Memref.isWhole_whole _) cc0_scratch3 cc0_scratch4 cc0_scratch5 c (numW c) v157 v212) Q := by
  rw [k0_part8_eq_skeleton]
  unfold k0_part8_skel
  extract_lets
  refine loadOut_rule c g fun v => ?_
  refine storeOut_rule c g _ ?_
  have h₁ : iprop(wholePts c cc0_stg0_0 (k0_pay4 v157 v212) ∗ leftLoop m K c 0 ∗ R) ⊢ iprop(leftLoop m K c 0 ∗ wholePts c cc0_stg0_0 (k0_pay4 v157 v212) ∗ R) := by
    iintro ⟨H1, H2, H3⟩
    isplitl [H2]; · iexact H2
    isplitl [H1] <;> iassumption
  refine h₁.trans ?_
  iterate 8 refine left_rule m K c (by decide) (cond_lt c _) (fun _ => rfl) ?_
  exact ret_rule c _ hk

end Cert.Scan

end
-- ==== Proof.Between.lean ====
/-
# What happens between the loops

Each of the body's five loops is entered with what the statements before it leave and left with what the statements after
it need. This module states, for each loop, how it is opened and how it is closed, and what becomes of the buffers and
semaphores that go from one loop to the next.
-/
module

public import proofs.«01_k».proof.Proof.Rules

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 34 → ℕ) (c : Dev nD)

/-- Conjoining two families member by member is conjoining their conjunctions. -/
theorem bigSep_pair {I : Type} [DecidableEq I] {s : Finset I} {Φ Ψ : I → sProp 𝕄} :
    bigSep s (fun i => iprop(Φ i ∗ Ψ i)) = iprop(bigSep s Φ ∗ bigSep s Ψ) := bigSep_sep' _ _ _

/-! ## The signals -/

/-- The sixteen-row buffer is its sixteen rows. -/
theorem rows_eq (f : (cc0_scratch1 : Ref sig .tc).ty.Contents (Elt F)) :
    wholePts c cc0_scratch1 f = bigSep Finset.univ fun i => rowPts c i f :=
  Ring.pointsTo_blocks (ℓ := (c : Thread nD τ).loc cc0_scratch1) rowSet row_disjoint row_cover f

/-- The rows a device keeps for itself: those of the devices not before it. -/
def keptRows (f : (cc0_scratch1 : Ref sig .tc).ty.Contents (Elt F)) : sProp (MT nD τ sig Unit (Elt F) ℕ UU ℕ) :=
  bigSep (Finset.univ.filter fun i => ¬i < c) fun i => rowPts c i f

/-- The tokens for its signals. -/
def sigToks : sProp (MT nD τ sig Unit (Elt F) ℕ UU ℕ) := bigSep (Finset.univ.filter (· < c)) fun i => dutyTok ER (barCell i) 0 c

/-- The signal loop starts from all a device owes, the tokens and the sixteen-row buffer; -/
theorem sig_open (f : (cc0_scratch1 : Ref sig .tc).ty.Contents (Elt F)) :
    iprop(carry m K c (O₀ c) ∗ sigToks c ∗ wholePts c cc0_scratch1 f) ⊢ iprop(sigLoop m K c 0 ∗ keptRows c f) := by
  rw [rows_eq, bigSep_univ_by (· < c)]
  iintro ⟨Hc, Ht, Hr, Hk⟩
  isplitr [Hk]
  · unfold sigLoop
    iapply (loopAt_intro (· < c) (fun j => carry m K c (owedRecv c 0 + owedBar c j)) (sigIn c) (fun _ => iprop(emp)))
    isplitl [Hc]; · unfold O₀; iexact Hc
    have h : iprop(sigToks c ∗ bigSep (Finset.univ.filter (· < c)) (fun i => rowPts c i f)) ⊢ bigSep (Finset.univ.filter (· < c)) (sigIn (F := F) c) := by
      unfold sigToks
      rw [← bigSep_pair]
      refine bigSep_mono fun i _ => ?_
      unfold sigIn
      show (_ : sProp 𝕄) ⊢ (_ : sProp 𝕄)
      iintro ⟨H1, H2⟩
      isplitl [H1]; · iexact H1
      iexists f; iexact H2
    iapply h
    isplitl [Ht] <;> iassumption
  · unfold keptRows; iexact Hk

/-- and leaves it owing the transfers only. -/
theorem sig_close : sigLoop m K c 16 ⊢ carry m K c (owedRecv c 0) := by
  unfold sigLoop
  refine (loopAt_elim (· < c) (fun j => carry m K c (owedRecv c 0 + owedBar c j)) (sigIn c) (fun _ => iprop(emp))).trans ?_
  rw [owedBar_last, add_zero]
  exact sep_elim_left

/-! ## The wait on the barrier -/

/-- What is left of the barrier outside its loop: on the last device, where nobody waits, all of it. -/
def barRest : sProp (MT nD τ sig Unit (Elt F) ℕ UU ℕ) := if c.val < 15 then iprop(emp) else barIn c

/-- What is left of it after its loop. -/
def barEnd : sProp (MT nD τ sig Unit (Elt F) ℕ UU ℕ) := if c.val < 15 then semVal (barCell c) 0 else barIn c

/-- The steps of the wait's loop that do something: device `c`'s own, unless it is the last. -/
theorem bar_step_of (h : c.val < 15) : (Finset.univ.filter fun k : Dev nD => k = c ∧ k.val < 15) = {c} := by
  ext k
  rw [Finset.mem_filter, Finset.mem_singleton]
  exact ⟨fun h' => h'.2.1, fun h' => ⟨Finset.mem_univ _, h', h' ▸ h⟩⟩
theorem bar_step_none (h : ¬c.val < 15) : (Finset.univ.filter fun k : Dev nD => k = c ∧ k.val < 15) = ∅ :=
  Finset.filter_false_of_mem fun k _ h' => h (h'.1 ▸ h'.2)

theorem bar_open : iprop(carry m K c (owedRecv c 0) ∗ barIn c) ⊢ iprop(barLoop m K c 0 ∗ barRest c) := by
  have hi := loopAt_intro (fun k : Dev nD => k = c ∧ k.val < 15) (fun _ => carry m K c (owedRecv c 0)) (fun _ => barIn c) (fun _ => barOut c)
  unfold barRest barLoop
  by_cases h : c.val < 15
  · rw [bar_step_of c h, bigSep_singleton] at hi
    rw [if_pos h]
    iintro H
    isplitl [H]
    · iapply hi; iexact H
    · iempintro
  · rw [bar_step_none c h, bigSep_empty] at hi
    rw [if_neg h]
    iintro ⟨H1, H2⟩
    isplitl [H1]
    · iapply hi
      isplitl [H1]; · iexact H1
      iempintro
    · iexact H2

/-- After the wait a device holds its row in every later device's buffer. -/
theorem bar_close : iprop(barLoop m K c 15 ∗ barRest c)
    ⊢ iprop(carry m K c (owedRecv c 0) ∗ bigSep (Finset.univ.filter (c < ·)) (fun d => iprop(∃ f, rowPts (F := F) d c f)) ∗ barEnd c) := by
  have hs := loopAt_skip (fun k : Dev nD => k = c ∧ k.val < 15) (fun _ => carry m K c (owedRecv c 0)) (fun _ => barIn c) (fun _ => barOut c)
    ⟨15, by decide⟩ (fun h => absurd h.2 (Nat.lt_irrefl 15)) (BI.Entails.refl _)
  have he := hs.trans (loopAt_elim (fun k : Dev nD => k = c ∧ k.val < 15) (fun _ => carry m K c (owedRecv c 0)) (fun _ => barIn c) (fun _ => barOut c))
  unfold barRest barLoop barEnd
  by_cases h : c.val < 15
  · rw [bar_step_of c h, bigSep_singleton] at he
    rw [if_pos h, if_pos h]
    unfold barOut at he ⊢
    iintro ⟨H, -⟩
    iapply he; iexact H
  · rw [bar_step_none c h, bigSep_empty] at he
    rw [if_neg h, if_neg h, show (Finset.univ.filter (c < ·)) = ∅ from Finset.filter_false_of_mem fun d _ hd => by
      have h1 : d.val < 16 := d.isLt
      have h2 : c.val < d.val := hd
      omega, bigSep_empty]
    iintro ⟨H, Hb⟩
    ihave H' := he $$ H
    icases H' with ⟨H1, H2⟩
    isplitl [H1]; · iexact H1
    isplitl [H2] <;> iassumption

/-! ## The transfers -/

/-- The tokens for the transfers. -/
def sendToks : sProp (MT nD τ sig Unit (Elt F) ℕ UU ℕ) :=
  bigSep (Finset.univ.filter (c < ·)) fun j => iprop(dutyTok ER (sendCell c j) 0 c ∗ dutyTok ER (recvCell j c) 0 c)

/-- What stays of the column sums while shares of them are lent. -/
def totKept : sProp (MT nD τ sig Unit (Elt F) ℕ UU ℕ) :=
  iprop(totPts m c (Transfers.shareDrop fullShare 16) ∗ bigSep (Finset.univ.filter fun j => ¬c < j) fun j => totPts m c (shareOf j))

/-- The column sums held whole. -/
theorem tot_eq : wholePts c cc0_scratch2 (totAt m c) = totPts m c fullShare := by
  unfold totPts; rw [show (totM : Memref sig .tc .vmem S1x256 .f32).view.set = Finset.univ from View.set_whole _]

/-- They are what stays and a share for each later device. -/
theorem tot_split : wholePts c cc0_scratch2 (totAt m c)
    ⊢ iprop(bigSep (Finset.univ.filter (c < ·)) (fun j => totPts m c (shareOf j)) ∗ totKept m c) := by
  rw [tot_eq]
  unfold totKept totPts
  refine (Transfers.pointsTo_toks_split fullShare 16).trans ?_
  have e := bigSep_univ_by (fun j : Dev nD => c < j) (fun j : Dev nD => totPts (F := F) m c (shareOf j))
  unfold totPts at e
  rw [show (bigSep Finset.univ fun i : Fin 16 => (totM.view.loc (c : Thread nD τ) ↦[totM.view.set]{Transfers.shareTok fullShare 16 i} totAt m c : sProp 𝕄)) = _ from e]
  iintro ⟨H1, H2, H3⟩
  isplitl [H2]; · iexact H2
  isplitl [H1] <;> iassumption

theorem tot_join : iprop(bigSep (Finset.univ.filter (c < ·)) (fun j => totPts m c (shareOf j)) ∗ totKept m c)
    ⊢ wholePts c cc0_scratch2 (totAt m c) := by
  rw [tot_eq]
  unfold totKept totPts
  refine BI.Entails.trans ?_ (Transfers.pointsTo_toks_join fullShare 16)
  have e := bigSep_univ_by (fun j : Dev nD => c < j) (fun j : Dev nD => totPts (F := F) m c (shareOf j))
  unfold totPts at e
  rw [show (bigSep Finset.univ fun i : Fin 16 => (totM.view.loc (c : Thread nD τ) ↦[totM.view.set]{Transfers.shareTok fullShare 16 i} totAt m c : sProp 𝕄)) = _ from e]
  show (_ : sProp 𝕄) ⊢ (_ : sProp 𝕄)
  iintro ⟨H2, H1, H3⟩
  isplitl [H1]; · iexact H1
  isplitl [H2] <;> iassumption

theorem send_open : iprop(carry m K c (owedRecv c 0) ∗ bigSep (Finset.univ.filter (c < ·)) (fun d => iprop(∃ f, rowPts (F := F) d c f)) ∗ sendToks c
      ∗ wholePts c cc0_scratch2 (totAt m c))
    ⊢ iprop(sendLoop m K c 0 ∗ totKept m c) := by
  refine (sep_mono_right (sep_mono_right (sep_mono_right (tot_split m c)))).trans ?_
  iintro ⟨Hc, Hr, Ht, Hs, Hk⟩
  isplitr [Hk]
  · unfold sendLoop
    iapply (loopAt_intro (c < ·) (fun j => carry m K c (owedRecv c j)) (sendIn m c) (sendOut c))
    isplitl [Hc]; · iexact Hc
    have h : iprop(bigSep (Finset.univ.filter (c < ·)) (fun d => iprop(∃ f, rowPts (F := F) d c f)) ∗ sendToks c
        ∗ bigSep (Finset.univ.filter (c < ·)) (fun j => totPts m c (shareOf j)))
        ⊢ bigSep (Finset.univ.filter (c < ·)) (sendIn m c) := by
      unfold sendToks
      rw [← bigSep_pair, ← bigSep_pair]
      refine bigSep_mono fun j _ => ?_
      unfold sendIn
      show (_ : sProp 𝕄) ⊢ (_ : sProp 𝕄)
      iintro ⟨H1, ⟨H2, H3⟩, H4⟩
      isplitl [H2]; · iexact H2
      isplitl [H3]; · iexact H3
      isplitl [H1] <;> iassumption
    iapply h
    isplitl [Hr]; · iexact Hr
    isplitl [Ht] <;> iassumption
  · iexact Hk

theorem send_close : sendLoop m K c 16 ⊢ iprop(carry m K c 0 ∗ bigSep (Finset.univ.filter (c < ·)) (sendOut (F := F) c)) := by
  unfold sendLoop
  refine (loopAt_elim (c < ·) (fun j => carry m K c (owedRecv c j)) (sendIn m c) (sendOut c)).trans ?_
  rw [owedRecv_last]

/-! ## The waits for the earlier devices' rows -/

theorem recv_open : iprop(carry m K c 0 ∗ bigSep (Finset.univ.filter (· < c)) (recvIn (F := F) c)) ⊢ recvLoop m K c 0 := by
  unfold recvLoop
  exact loopAt_intro (· < c) (fun _ => carry m K c 0) (recvIn c) (recvOut m c)

/-- The rows of the earlier devices, come in, and the others make up the sixteen-row buffer again; the sum of its rows
    below `c` is the sum of the earlier devices' column sums. -/
theorem rows_join (f : (cc0_scratch1 : Ref sig .tc).ty.Contents (Elt F)) :
    iprop(bigSep (Finset.univ.filter (· < c)) (fun i => rowPts c i (commAt m)) ∗ keptRows c f)
      ⊢ iprop(∃ g : Vec F S16x256 .f32, ⌜k0_pay3 (numW c) g = k0_pay3 (numW c) (commAt m)⌝ ∗ wholePts c cc0_scratch1 g) := by
  have e : iprop(bigSep (Finset.univ.filter (· < c)) (fun i => rowPts c i (commAt m)) ∗ keptRows c f)
      ⊢ bigSep Finset.univ (fun i => rowPts (F := F) c i (if i < c then commAt m else f)) := by
    rw [bigSep_univ_by (· < c)]
    unfold keptRows
    refine (sep_mono_left (bigSep_mono fun i hi => ?_)).trans (sep_mono_right (bigSep_mono fun i hi => ?_))
    · rw [if_pos (Finset.mem_filter.mp hi).2]; exact BI.Entails.refl _
    · rw [if_neg (Finset.mem_filter.mp hi).2]; exact BI.Entails.refl _
  refine e.trans ?_
  have j := pointsTo_biUnion_join (ℓ := (c : Thread nD τ).loc cc0_scratch1) (Ix := Unit) (Val := Elt F) (Name := ℕ) (U := UU) (Lvl := ℕ) (q := fullShare)
    Finset.univ rowSet (fun i : Dev nD => if i < c then commAt m else f) f (fun b _ b' _ h => row_disjoint b b' h)
  rw [row_cover] at j
  refine BI.Entails.trans (Q := _) j ?_
  show (_ : sProp 𝕄) ⊢ (_ : sProp 𝕄)
  iintro H'
  icases H' with ⟨%g, %hg, H'⟩
  iexists g
  isplitr
  · ipureintro
    refine pay3_congr c g (commAt m) fun j hj => ?_
    have := hg (rowOf j) (Finset.mem_univ _) j ((mem_row _ _).mpr rfl)
    rw [if_pos hj] at this
    exact this
  · iexact H'

theorem recv_close (f : (cc0_scratch1 : Ref sig .tc).ty.Contents (Elt F)) : iprop(recvLoop m K c 16 ∗ keptRows c f)
    ⊢ iprop(∃ g : Vec F S16x256 .f32, ⌜k0_pay3 (numW c) g = k0_pay3 (numW c) (commAt m)⌝ ∗ wholePts c cc0_scratch1 g
      ∗ carry m K c 0 ∗ bigSep (Finset.univ.filter (· < c)) (fun i => semVal (recvCell c i) 0)) := by
  unfold recvLoop
  refine (sep_mono_left (loopAt_elim (· < c) (fun _ => carry m K c 0) (recvIn c) (recvOut m c))).trans ?_
  have e : bigSep (Finset.univ.filter (· < c)) (recvOut m c)
      = iprop(bigSep (Finset.univ.filter (· < c)) (fun i => rowPts c i (commAt m)) ∗ bigSep (Finset.univ.filter (· < c)) (fun i => semVal (recvCell c i) 0)) := bigSep_pair
  rw [e]
  iintro ⟨⟨Hc, Hr, Hs⟩, Hk⟩
  ihave Hj := (rows_join m c f) $$ [Hr Hk]
  · isplitl [Hr] <;> iassumption
  icases Hj with ⟨%g, %hg, Hj⟩
  iexists g
  isplitr; · ipureintro; exact hg
  isplitl [Hj]; · iexact Hj
  isplitl [Hc] <;> iassumption

/-! ## The waits for the device's own transfers to have left -/

theorem left_open : iprop(carry m K c 0 ∗ bigSep (Finset.univ.filter (c < ·)) (sendOut (F := F) c)
      ∗ bigSep (Finset.univ.filter (c < ·)) (fun j => atPos ER (sendCell c j) 0 ∅ 0)) ⊢ leftLoop m K c 0 := by
  unfold leftLoop
  have h : iprop(carry m K c 0 ∗ bigSep (Finset.univ.filter (c < ·)) (sendOut (F := F) c)
      ∗ bigSep (Finset.univ.filter (c < ·)) (fun j => atPos ER (sendCell c j) 0 ∅ 0))
      ⊢ iprop(carry m K c 0 ∗ bigSep (Finset.univ.filter (c < ·)) (leftIn (F := F) c)) := by
    refine sep_mono_right ?_
    rw [← bigSep_pair]
    exact BI.Entails.refl _
  exact h.trans (loopAt_intro (c < ·) (fun _ => carry m K c 0) (leftIn c) (leftOut m c))

theorem left_close : iprop(leftLoop m K c 16 ∗ totKept m c)
    ⊢ iprop(carry m K c 0 ∗ wholePts c cc0_scratch2 (totAt m c) ∗ bigSep (Finset.univ.filter (c < ·)) (fun j => semVal (sendCell c j) 0)) := by
  unfold leftLoop
  refine (sep_mono_left (loopAt_elim (c < ·) (fun _ => carry m K c 0) (leftIn c) (leftOut m c))).trans ?_
  have e : bigSep (Finset.univ.filter (c < ·)) (leftOut m c)
      = iprop(bigSep (Finset.univ.filter (c < ·)) (fun j => totPts m c (shareOf j)) ∗ bigSep (Finset.univ.filter (c < ·)) (fun j => semVal (sendCell c j) 0)) := bigSep_pair
  rw [e]
  iintro ⟨⟨Hc, Hr, Hs⟩, Hk⟩
  isplitl [Hc]; · iexact Hc
  isplitl [Hr Hk]
  · iapply (tot_join m c)
    isplitl [Hr] <;> iassumption
  · iexact Hs

/-! ## The semaphores nobody uses -/

/-- The semaphores of a device that are not used: those of sends to devices not after it, those of receives from devices
    not before it. -/
def idle : sProp (MT nD τ sig Unit (Elt F) ℕ UU ℕ) :=
  iprop(bigSep (Finset.univ.filter fun j => ¬c < j) (fun j => atPos ER (sendCell c j) 0 ∅ 0)
    ∗ bigSep (Finset.univ.filter fun i => ¬i < c) (fun i => atPos ER (recvCell c i) 0 ∅ 0))

/-- All of a device's semaphores at rest. -/
def atRest : sProp (MT nD τ sig Unit (Elt F) ℕ UU ℕ) :=
  iprop(semVal (barCell c) 0 ∗ semVal (copyCell c) 0 ∗ bigSep Finset.univ (fun j : Dev nD => semVal (sendCell c j) 0)
    ∗ bigSep Finset.univ (fun i : Dev nD => semVal (recvCell c i) 0))

theorem bar_rest : iprop(ctx m K ∗ barEnd c) ⊢ |={Set.univ}=> semVal (barCell c) 0 := by
  unfold barEnd
  by_cases h : c.val < 15
  · rw [if_pos h]
    exact sep_elim_right.trans fupd_intro
  · rw [if_neg h]
    unfold barIn
    have h15 : c.val = 15 := by have : c.val < 16 := c.isLt; omega
    exact (sep_mono_right sep_elim_right).trans (close_unused m K (kcell_bar c) (duties_none_bar m c h15))

theorem idle_rest : iprop(ctx m K ∗ idle c)
    ⊢ |={Set.univ}=> iprop(bigSep (Finset.univ.filter fun j => ¬c < j) (fun j => semVal (sendCell c j) 0)
      ∗ bigSep (Finset.univ.filter fun i => ¬i < c) (fun i => semVal (recvCell c i) 0)) := by
  have h₁ : iprop(ctx m K ∗ bigSep (Finset.univ.filter fun j => ¬c < j) (fun j => atPos ER (sendCell c j) 0 ∅ 0))
      ⊢ |={Set.univ}=> bigSep (Finset.univ.filter fun j => ¬c < j) (fun j => semVal (sendCell c j) 0) :=
    (bigSep_with_persistent fun j hj => close_unused m K (kcell_send c j) (duties_none_send m c j (Finset.mem_filter.mp hj).2)).trans (bigSep_fupd _ _)
  have h₂ : iprop(ctx m K ∗ bigSep (Finset.univ.filter fun i => ¬i < c) (fun i => atPos ER (recvCell c i) 0 ∅ 0))
      ⊢ |={Set.univ}=> bigSep (Finset.univ.filter fun i => ¬i < c) (fun i => semVal (recvCell c i) 0) :=
    (bigSep_with_persistent fun i hi => close_unused m K (kcell_recv c i) (duties_none_recv m c i (Finset.mem_filter.mp hi).2)).trans (bigSep_fupd _ _)
  unfold idle
  iintro ⟨#Hc, Hs, Hr⟩
  imod h₁ $$ [Hs] with Hs
  · isplitr; · iexact Hc
    iexact Hs
  imod h₂ $$ [Hr] with Hr
  · isplitr; · iexact Hc
    iexact Hr
  imodintro
  isplitl [Hs] <;> iassumption

/-- With the semaphores used come to rest, and the unused ones closed, all are at rest. -/
theorem all_rest : iprop(ctx m K ∗ barEnd c ∗ semVal (copyCell c) 0 ∗ bigSep (Finset.univ.filter (c < ·)) (fun j => semVal (sendCell c j) 0)
      ∗ bigSep (Finset.univ.filter (· < c)) (fun i => semVal (recvCell c i) 0) ∗ idle c)
    ⊢ |={Set.univ}=> atRest (F := F) c := by
  unfold atRest
  rw [bigSep_univ_by (fun j : Dev nD => c < j) (fun j => (semVal (sendCell c j) 0 : sProp 𝕄)),
    bigSep_univ_by (fun i : Dev nD => i < c) (fun i => (semVal (recvCell c i) 0 : sProp 𝕄))]
  iintro ⟨#Hc, Hb, Hx, Hs, Hr, Hi⟩
  imod (bar_rest m K c) $$ [Hb] with Hb
  · isplitr; · iexact Hc
    iexact Hb
  imod (idle_rest m K c) $$ [Hi] with Hi
  · isplitr; · iexact Hc
    iexact Hi
  icases Hi with ⟨Hs', Hr'⟩
  imodintro
  isplitl [Hb]; · iexact Hb
  isplitl [Hx]; · iexact Hx
  isplitl [Hs Hs']
  · isplitl [Hs] <;> iassumption
  · isplitl [Hr] <;> iassumption

end Cert.Scan

end
-- ==== Proof.BodyRun.lean ====
/-
# The whole body

The body of the kernel on one device, from what the launch gives the device to what it leaves: the parts in order, and
between them the loops closed and opened.
-/
module

public import proofs.«01_k».proof.Proof.Parts
public import proofs.«01_k».proof.Proof.Between

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 34 → ℕ) (c : Dev nD)

/-- For each earlier device, what the wait for its transfer needs; for each later device, where the send semaphore
    stands; the receive semaphores of the earlier devices at rest. -/
def recvs : sProp (MT nD τ sig Unit (Elt F) ℕ UU ℕ) := bigSep (Finset.univ.filter (· < c)) (recvIn (F := F) c)
def lefts : sProp (MT nD τ sig Unit (Elt F) ℕ UU ℕ) := bigSep (Finset.univ.filter (c < ·)) fun j => atPos ER (sendCell c j) 0 ∅ 0
def came : sProp (MT nD τ sig Unit (Elt F) ℕ UU ℕ) := bigSep (Finset.univ.filter (· < c)) fun i => semVal (recvCell c i) 0

/-- What the launch gives a device besides its scratch buffers. -/
def devIn : sProp (MT nD τ sig Unit (Elt F) ℕ UU ℕ) :=
  iprop(carry m K c (O₀ c) ∗ argPts m c ∗ dutyTok ER (copyCell c) 0 c ∗ atPos ER (copyCell c) 0 ∅ 0 ∗ barIn c ∗ sigToks c ∗ sendToks c ∗ recvs c ∗ lefts c ∗ idle c)

/-- What the body leaves: nothing owed, the argument unchanged, the result in its buffer, all semaphores at rest. -/
def devOut : sProp (MT nD τ sig Unit (Elt F) ℕ UU ℕ) :=
  iprop(carry m K c 0 ∗ argPts m c ∗ xPts m c ∗ (∃ g : Vec F S16x256 .f32, wholePts c cc0_scratch1 g) ∗ wholePts c cc0_scratch2 (totAt m c)
    ∗ wholePts c cc0_stg0_0 (outAt m c) ∗ atRest c)

variable (f₁ : (cc0_scratch1 : Ref sig .tc).ty.Contents (Elt F)) (f₃ : (cc0_stg0_0 : Ref sig .tc).ty.Contents (Elt F))

/-! ## What is held beside each loop -/

/-- Beside the signals and the copy. -/
def beside1 : sProp (MT nD τ sig Unit (Elt F) ℕ UU ℕ) :=
  iprop(barIn c ∗ keptRows c f₁ ∗ sendToks c ∗ recvs c ∗ lefts c ∗ idle c ∗ wholePts c cc0_stg0_0 f₃)

/-- Beside the wait on the barrier. -/
def beside2 : sProp (MT nD τ sig Unit (Elt F) ℕ UU ℕ) :=
  iprop(xPts m c ∗ argPts m c ∗ semVal (copyCell c) 0 ∗ keptRows c f₁ ∗ sendToks c ∗ recvs c ∗ lefts c ∗ idle c ∗ wholePts c cc0_stg0_0 f₃)

/-- Beside the transfers. -/
def beside3 : sProp (MT nD τ sig Unit (Elt F) ℕ UU ℕ) :=
  iprop(xPts m c ∗ totKept m c ∗ barEnd c ∗ argPts m c ∗ semVal (copyCell c) 0 ∗ keptRows c f₁ ∗ recvs c ∗ lefts c ∗ idle c ∗ wholePts c cc0_stg0_0 f₃)

/-- Beside the waits for the earlier devices. -/
def beside4 : sProp (MT nD τ sig Unit (Elt F) ℕ UU ℕ) :=
  iprop(bigSep (Finset.univ.filter (c < ·)) (sendOut (F := F) c) ∗ totKept m c ∗ barEnd c ∗ argPts m c ∗ semVal (copyCell c) 0 ∗ keptRows c f₁ ∗ lefts c ∗ idle c ∗ wholePts c cc0_stg0_0 f₃)

/-- Beside the waits for its own transfers. -/
def beside6 : sProp (MT nD τ sig Unit (Elt F) ℕ UU ℕ) :=
  iprop(xPts m c ∗ came c ∗ totKept m c ∗ barEnd c ∗ argPts m c ∗ semVal (copyCell c) 0 ∗ idle c)

/-! ## From one loop to the next -/

/-- Entering. -/
theorem enter (f₀ : (cc0_scratch0 : Ref sig .tc).ty.Contents (Elt F)) (f₂ : Vec F S1x256 .f32) :
    iprop(devIn m K c ∗ wholePts c cc0_scratch0 f₀ ∗ wholePts c cc0_scratch1 f₁ ∗ wholePts c cc0_scratch2 f₂ ∗ wholePts c cc0_stg0_0 f₃)
      ⊢ iprop((ctx m K ∗ argPts m c ∗ (xM.view.loc (c : Thread nD τ) ↦[xM.view.set]{fullShare} f₀) ∗ dutyTok ER (copyCell c) 0 c)
        ∗ sigLoop m K c 0 ∗ atPos ER (copyCell c) 0 ∅ 0 ∗ wholePts c cc0_scratch2 f₂ ∗ beside1 c f₁ f₃) := by
  have e : (xM.view.loc (c : Thread nD τ) ↦[xM.view.set]{fullShare} f₀ : sProp 𝕄) = wholePts c cc0_scratch0 f₀ := by
    rw [show (xM : Memref sig .tc .vmem S256x256 .f32).view.set = Finset.univ from View.set_whole _]
  rw [e]
  unfold devIn beside1 carry
  iintro ⟨⟨⟨#Hc, HO⟩, Ha, Ht, Hat, Hb, Hst, Hs, Hr, Hl, Hi⟩, Hx, Hrows, Htot, Hstg⟩
  ihave Hsig := (sig_open m K c f₁) $$ [HO Hst Hrows]
  · unfold carry
    isplitl [HO]
    · isplitr; · iexact Hc
      iexact HO
    isplitl [Hst] <;> iassumption
  icases Hsig with ⟨Hsig, Hk⟩
  isplitl [Ha Hx Ht]
  · isplitr; · iexact Hc
    isplitl [Ha]; · iexact Ha
    isplitl [Hx] <;> iassumption
  isplitl [Hsig]; · iexact Hsig
  isplitl [Hat]; · iexact Hat
  isplitl [Htot]; · iexact Htot
  isplitl [Hb]; · iexact Hb
  isplitl [Hk]; · iexact Hk
  isplitl [Hs]; · iexact Hs
  isplitl [Hr]; · iexact Hr
  isplitl [Hl]; · iexact Hl
  isplitl [Hi] <;> iassumption

/-- After the signals. -/
theorem signalled (f₂ : Vec F S1x256 .f32) :
    iprop(sigLoop m K c 16 ∗ cred (tallyAt (copyCell c) () NX) ∗ atPos ER (copyCell c) 0 ∅ 0 ∗ wholePts c cc0_scratch2 f₂ ∗ beside1 c f₁ f₃)
      ⊢ iprop((carry m K c (owedRecv c 0) ∗ cred (tallyAt (copyCell c) () NX) ∗ atPos ER (copyCell c) 0 ∅ 0) ∗ wholePts c cc0_scratch2 f₂ ∗ beside1 c f₁ f₃) := by
  refine (sep_mono_left (sig_close m K c)).trans ?_
  iintro ⟨H1, H2, H3, H4⟩
  isplitl [H1 H2 H3]
  · isplitl [H1]; · iexact H1
    isplitl [H2] <;> iassumption
  · iexact H4

/-- After the copy has been waited for and the column sums stored. -/
theorem summed :
    iprop(wholePts c cc0_scratch2 (totAt m c) ∗ xPts m c ∗ carry m K c (owedRecv c 0) ∗ argPts m c ∗ semVal (copyCell c) 0 ∗ beside1 c f₁ f₃)
      ⊢ iprop(barLoop m K c 0 ∗ barRest c ∗ wholePts c cc0_scratch2 (totAt m c) ∗ beside2 m c f₁ f₃) := by
  unfold beside1 beside2
  iintro ⟨Ht, Hx, Hc, Ha, Hz, H0, H1, H2, H3, H4, H5, H6⟩
  ihave Hbar := (bar_open m K c) $$ [Hc H0]
  · isplitl [Hc] <;> iassumption
  icases Hbar with ⟨Hbar, Hrest⟩
  isplitl [Hbar]; · iexact Hbar
  isplitl [Hrest]; · iexact Hrest
  isplitl [Ht]; · iexact Ht
  isplitl [Hx]; · iexact Hx
  isplitl [Ha]; · iexact Ha
  isplitl [Hz]; · iexact Hz
  isplitl [H1]; · iexact H1
  isplitl [H2]; · iexact H2
  isplitl [H3]; · iexact H3
  isplitl [H4]; · iexact H4
  isplitl [H5]; · iexact H5
  iexact H6

/-- After the wait on the barrier. -/
theorem waited :
    iprop(barLoop m K c 15 ∗ barRest c ∗ wholePts c cc0_scratch2 (totAt m c) ∗ beside2 m c f₁ f₃) ⊢ iprop(sendLoop m K c 0 ∗ beside3 m c f₁ f₃) := by
  unfold beside2 beside3
  iintro ⟨Hb, Hr, Ht, H0, H1, H2, H3, H4, H5, H6, H7, H8⟩
  ihave Hbar := (bar_close m K c) $$ [Hb Hr]
  · isplitl [Hb] <;> iassumption
  icases Hbar with ⟨Hc, Hrows, Hend⟩
  ihave Hs := (send_open m K c) $$ [Hc Hrows Ht H4]
  · isplitl [Hc]; · iexact Hc
    isplitl [Hrows]; · iexact Hrows
    isplitl [H4] <;> iassumption
  icases Hs with ⟨Hs, Hk⟩
  isplitl [Hs]; · iexact Hs
  isplitl [H0]; · iexact H0
  isplitl [Hk]; · iexact Hk
  isplitl [Hend]; · iexact Hend
  isplitl [H1]; · iexact H1
  isplitl [H2]; · iexact H2
  isplitl [H3]; · iexact H3
  isplitl [H5]; · iexact H5
  isplitl [H6]; · iexact H6
  isplitl [H7]; · iexact H7
  iexact H8

/-- After the transfers. -/
theorem sent : iprop(sendLoop m K c 16 ∗ beside3 m c f₁ f₃) ⊢ iprop(xPts m c ∗ recvLoop m K c 0 ∗ beside4 m c f₁ f₃) := by
  unfold beside3 beside4
  refine (sep_mono_left (send_close m K c)).trans ?_
  iintro ⟨⟨Hc, Ho⟩, H0, H1, H2, H3, H4, H5, H6, H7, H8, H9⟩
  isplitl [H0]; · iexact H0
  isplitl [Hc H6]
  · iapply (recv_open m K c)
    isplitl [Hc]; · iexact Hc
    unfold recvs; iexact H6
  isplitl [Ho]; · iexact Ho
  isplitl [H1]; · iexact H1
  isplitl [H2]; · iexact H2
  isplitl [H3]; · iexact H3
  isplitl [H4]; · iexact H4
  isplitl [H5]; · iexact H5
  isplitl [H7]; · iexact H7
  isplitl [H8]; · iexact H8
  iexact H9

/-- After the waits for the earlier devices' rows. -/
theorem received : iprop(recvLoop m K c 16 ∗ xPts m c ∗ beside4 m c f₁ f₃)
    ⊢ iprop(∃ g : Vec F S16x256 .f32, ⌜k0_pay3 (numW c) g = k0_pay3 (numW c) (commAt m)⌝ ∗ wholePts c cc0_scratch1 g
      ∗ wholePts c cc0_stg0_0 f₃ ∗ leftLoop m K c 0 ∗ beside6 m c) := by
  unfold beside4 beside6 lefts
  iintro ⟨Hl, Hx, H0, H1, H2, H3, H4, H5, H6, H7, H8⟩
  ihave Hr := (recv_close m K c f₁) $$ [Hl H5]
  · isplitl [Hl] <;> iassumption
  icases Hr with ⟨%g, %hg, Hg, Hc, Hcame⟩
  iexists g
  isplitr; · ipureintro; exact hg
  isplitl [Hg]; · iexact Hg
  isplitl [H8]; · iexact H8
  isplitl [Hc H0 H6]
  · iapply (left_open m K c)
    isplitl [Hc]; · iexact Hc
    isplitl [H0] <;> iassumption
  isplitl [Hx]; · iexact Hx
  isplitl [Hcame]; · unfold came; iexact Hcame
  isplitl [H1]; · iexact H1
  isplitl [H2]; · iexact H2
  isplitl [H3]; · iexact H3
  isplitl [H4]; · iexact H4
  iexact H7

/-- Leaving. -/
theorem leave (g : Vec F S16x256 .f32) :
    iprop(leftLoop m K c 16 ∗ wholePts c cc0_stg0_0 (outAt m c) ∗ wholePts c cc0_scratch1 g ∗ beside6 m c) ⊢ |={Set.univ}=> devOut m K c := by
  unfold beside6 devOut came
  iintro ⟨Hl, Ho, Hg, H0, H1, H2, H3, H4, H5, H6⟩
  ihave Hl' := (left_close m K c) $$ [Hl H2]
  · isplitl [Hl] <;> iassumption
  unfold carry
  icases Hl' with ⟨⟨#Hc, HO⟩, Ht, Hleft⟩
  imod (all_rest m K c) $$ [H3 H5 H1 H6 Hleft] with Hrest
  · isplitr; · iexact Hc
    isplitl [H3]; · iexact H3
    isplitl [H5]; · iexact H5
    isplitl [Hleft]; · iexact Hleft
    isplitl [H1] <;> iassumption
  imodintro
  isplitl [HO]
  · isplitr; · iexact Hc
    iexact HO
  isplitl [H4]; · iexact H4
  isplitl [H0]; · iexact H0
  isplitl [Hg]; · iexists g; iexact Hg
  isplitl [Ht]; · iexact Ht
  isplitl [Ho] <;> iassumption

/-! ## The body -/

set_option maxHeartbeats 4000000 in
/-- THE BODY: from what the launch gives a device and its scratch buffers at any contents, it runs and leaves `devOut`. -/
theorem body_run (f₀ : (cc0_scratch0 : Ref sig .tc).ty.Contents (Elt F)) (f₂ : Vec F S1x256 .f32) :
    iprop(devIn m K c ∗ wholePts c cc0_scratch0 f₀ ∗ wholePts c cc0_scratch1 f₁ ∗ wholePts c cc0_scratch2 f₂ ∗ wholePts c cc0_stg0_0 f₃)
      ⊢ wp frame (wpE (defs₀ (F := F)) 𝒱₀ (c : Thread nD τ) none) Set.univ
          (cc0_body argM (Memref.isWhole_whole _) outM (Memref.isWhole_whole _) xM (Memref.isWhole_whole _) commM (Memref.isWhole_whole _) totM (Memref.isWhole_whole _) cc0_scratch3 cc0_scratch4 cc0_scratch5) fun _ => devOut m K c := by
  rw [cc0_body_eq_skeleton]
  unfold cc0_body_skel
  refine (enter m K c f₁ f₃ f₀ f₂).trans ?_
  rw [wp_bind]
  refine part1 m K c f₀ ?_
  dsimp -zeta only
  extract_lets
  rw [wp_bind]
  refine part2 m K c f₂ (signalled m K c f₁ f₃ f₂) ((summed m K c f₁ f₃).trans ?_)
  rw [wp_bind]
  refine part3 m K c ?_
  rw [wp_bind]
  refine part4 m K c (waited m K c f₁ f₃) ?_
  rw [wp_bind]
  refine part5 m K c ?_
  rw [wp_bind]
  refine part6 m K c (sent m K c f₁ f₃) ?_
  dsimp -zeta only
  rw [wp_bind]
  refine part7 m K c _ (received m K c f₁ f₃) fun g hg => ?_
  rw [hg]
  have hs : iprop(wholePts c cc0_scratch1 g ∗ wholePts c cc0_stg0_0 f₃ ∗ leftLoop m K c 0 ∗ beside6 m c)
      ⊢ iprop(wholePts c cc0_stg0_0 f₃ ∗ leftLoop m K c 0 ∗ wholePts c cc0_scratch1 g ∗ beside6 m c) := by
    iintro ⟨H1, H2, H3, H4⟩
    isplitl [H2]; · iexact H2
    isplitl [H3]; · iexact H3
    isplitl [H1] <;> iassumption
  refine hs.trans ?_
  rw [wp_bind]
  refine part8 m K c f₃ _ _ ?_
  iterate 8 refine left_rule m K c (by decide) (cond_lt c _) (fun _ => rfl) ?_
  exact leave m K c g

end Cert.Scan

end
-- ==== Proof.Region.lean ====
/-
# The launch's view of the body

The proof data of the one pipelined call: what the body starts from on a device, what it leaves, and the obligation that
it leads from one to the other.
-/
module

public import proofs.«01_k».proof.Proof.BodyRun
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def atLaunch : MemSt nD τ sig (Elt F) := ⟨m, fun _ => 0, ρ⟩

/-- What a device is given besides its debts and its scratch buffers, the semaphores' names fixed. -/
def given (K : Dev nD × Fin 34 → ℕ) (c : Dev nD) : sProp (MT nD τ sig Unit (Elt F) ℕ UU ℕ) :=
  iprop(ctx m K ∗ argPts m c ∗ dutyTok ER (copyCell c) 0 c ∗ atPos ER (copyCell c) 0 ∅ 0 ∗ barIn c ∗ sigToks c ∗ sendToks c ∗ recvs c ∗ lefts c ∗ idle c)

/-- The same for some names. -/
def start (c : Dev nD) : sProp (MT nD τ sig Unit (Elt F) ℕ UU ℕ) := iprop(∃ K, given m K c)

/-- The three scratch buffers at some contents. -/
def scratch (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the body and after it. -/
def before (c : Dev nD) : sProp (MT nD τ sig Unit (Elt F) ℕ UU ℕ) := iprop(start m c ∗ scratch c)
def after (c : Dev nD) : sProp (MT nD τ sig Unit (Elt F) ℕ UU ℕ) := iprop(argPts m c ∗ atRest c ∗ scratch c)

/-- The proof data: the result's array as launched before the body, its staging buffer at the result after it. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => outAt m c
  Φ t := match t with
    | ⟨0, _⟩ => before m c
    | ⟨_ + 1, _⟩ => after m c
  q _ := fullShare
  owed t := match t with
    | ⟨0, _⟩ => O₀ c
    | ⟨_ + 1, _⟩ => 0

/-- The staging buffer of the result at contents equal to `X`. -/
abbrev staged (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- The call's state before and after its one point. -/
def callPre (c : Dev nD) : sProp (MT nD τ sig Unit (Elt F) ℕ UU ℕ) :=
  iprop(before m c ∗ (dats m ρ 0 c).owesAt () t0_0.castSucc ∗ ∃ d, staged c cc0_stg0_0 ((dats m ρ 0 c).before (0 : Fin 1) t0_0 d))
def callPost (c : Dev nD) : sProp (MT nD τ sig Unit (Elt F) ℕ UU ℕ) :=
  iprop(after m c ∗ (dats m ρ 0 c).owesAt () t0_0.succ ∗ staged c cc0_stg0_0 (outAt m c))

/-- What the body leaves is what the call is to leave. -/
theorem call_post (K : Dev nD × Fin 34 → ℕ) (c : Dev nD) : devOut m K c ⊢ callPost m ρ c := by
  unfold devOut callPost after scratch carry Dat.owesAt Pipeline.owesWithin
  rw [show (dats m ρ 0 c).owed t0_0.succ = 0 from rfl, xPts_eq]
  iintro ⟨⟨-, ⟨%W, HO⟩⟩, Ha, Hx, ⟨%g, Hg⟩, Ht, Ho, Hr⟩
  isplitl [Ha Hx Hg Ht Hr]
  · isplitl [Ha]; · iexact Ha
    isplitl [Hr]; · iexact Hr
    isplitl [Hx]; · iexists _; iexact Hx
    isplitl [Hg]; · iexists g; iexact Hg
    iexists _; iexact Ht
  isplitl [HO]
  · iexists W
    isplitr; · ipureintro; exact fun _ _ => Or.inl trivial
    iexact HO
  iexists _
  isplitr; · ipureintro; rfl
  iexact Ho

/-- The call from its state before to its state after. -/
theorem call_run (c : Dev nD) :
    callPre m ρ c ⊢ wp frame (wpE (defs₀ (F := F)) 𝒱₀ (c : Thread nD τ) none) Set.univ
      (cc0_body argM (Memref.isWhole_whole _) outM (Memref.isWhole_whole _) xM (Memref.isWhole_whole _) commM (Memref.isWhole_whole _) totM (Memref.isWhole_whole _) cc0_scratch3 cc0_scratch4 cc0_scratch5)
      fun _ => callPost m ρ c := by
  unfold callPre before start scratch given Dat.owesAt Pipeline.owesWithin
  rw [show (dats m ρ 0 c).owed t0_0.castSucc = O₀ c from rfl]
  iintro ⟨⟨⟨%K, Hctx, Hg⟩, ⟨%f₀, H0⟩, ⟨%f₁, H1⟩, ⟨%f₂, H2⟩⟩, ⟨%W, -, HO⟩, ⟨%d, %f₃, -, H3⟩⟩
  have h := (body_run m K c f₁ f₃ f₀ f₂).trans (wp_mono frame (wpE (defs₀ (F := F)) 𝒱₀ (c : Thread nD τ) none) Set.univ fun _ => call_post m ρ K c)
  iapply h
  isplitl [Hctx Hg HO]
  · unfold devIn carry
    icases Hg with ⟨Ha, Hg⟩
    isplitl [Hctx HO]
    · isplitl [Hctx]; · iexact Hctx
      iexists W; iexact HO
    isplitl [Ha] <;> iassumption
  isplitl [H0]; · iexact H0
  isplitl [H1]; · iexact H1
  isplitl [H2] <;> iassumption

/-- The call has one window. -/
theorem one_window (Φ : Fin cfg0.W → sProp (MT nD τ sig Unit (Elt F) ℕ UU ℕ)) : bigSep Finset.univ Φ = iprop(Φ (0 : Fin 1)) := bigSep_W0 Φ

/-- The library's obligation on the body. -/
theorem body_obligation (c : Dev nD) : BodyObligation (dats (F := F) m ρ 0 c) (defs₀ (F := F)) 𝒱₀ () Set.univ := fun t => by
  rw [fin_N0 t]
  rw [one_window, one_window]
  simp only [owns_staged]
  exact call_run m ρ c

end Cert.Scan

end
-- ==== Proof.Credits.lean ====
/-
# What the launch hands out

The semaphores of a device one by one, the tokens the launch mints, and the claims on a device's semaphores that the
debts of all devices together give it.
-/
module

public import proofs.«01_k».proof.Proof.Region

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of a device -/

/-- A conjunction over everything, as its part on a set and the rest. -/
theorem bigSep_part {M : Type} [URA M] {I : Type} [DecidableEq I] [Fintype I] (s : Finset I) (Φ : I → sProp M) :
    bigSep Finset.univ Φ = iprop(bigSep s Φ ∗ bigSep (Finset.univ \ s) Φ) := by
  rw [← bigSep_two Finset.disjoint_sdiff, Finset.union_sdiff_of_subset (Finset.subset_univ s)]

/-- The numbers of the send semaphores and of the receive semaphores among all semaphores. -/
def sendNo : Dev nD ↪ Fin 34 := ⟨fun j => (sendIx j j).2, fun a b h => Fin.ext (by have h' : 2 + a.val = 2 + b.val := congrArg Fin.val h; omega)⟩
def recvNo : Dev nD ↪ Fin 34 := ⟨fun j => (recvIx j j).2, fun a b h => Fin.ext (by have h' : 18 + a.val = 18 + b.val := congrArg Fin.val h; omega)⟩

theorem numbers : (Finset.univ : Finset (Fin 34)) = insert 0 (insert 1 (Finset.univ.map sendNo ∪ Finset.univ.map recvNo)) := by decide

/-- A conjunction over a device's semaphores: the barrier's, the copy's, the sends' and the receives'. -/
theorem over_cells {M : Type} [URA M] (Φ : Fin 34 → sProp M) :
    bigSep Finset.univ Φ = iprop(Φ 0 ∗ Φ 1 ∗ bigSep Finset.univ (fun j : Dev nD => Φ (sendNo j)) ∗ bigSep Finset.univ fun i : Dev nD => Φ (recvNo i)) := by
  rw [numbers, bigSep_ins (by decide), bigSep_ins (by decide), bigSep_two (by decide), bigSep_map, bigSep_map]

/-- The same of a device's semaphores themselves. -/
theorem over_device {M : Type} [URA M] (c : Dev nD) (Φ : GSem nD τ sig → sProp M) :
    bigSep Finset.univ (fun k : Fin 34 => Φ (kcell (c, k))) = iprop(Φ (barCell c) ∗ Φ (copyCell c)
      ∗ bigSep Finset.univ (fun j : Dev nD => Φ (sendCell c j)) ∗ bigSep Finset.univ fun i : Dev nD => Φ (recvCell c i)) := by
  rw [over_cells]
  rw [bigSep_congr (s := Finset.univ) fun (j : Dev nD) _ => show Φ (kcell (c, sendNo j)) = Φ (sendCell c j) from congrArg Φ (kcell_send c j),
    bigSep_congr (s := Finset.univ) fun (i : Dev nD) _ => show Φ (kcell (c, recvNo i)) = Φ (recvCell c i) from congrArg Φ (kcell_recv c i)]
  rfl

/-- The semaphores other than the barrier's, as the launch counts them. -/
def osem (k : Fin 33) : SemLoc sig := csem k.succ

theorem osem_facts : Pipeline.OwnSemFacts cfg0.spec osem := by decide

/-- A device's semaphores at zero, one by one. -/
theorem sems_zero (c : Dev nD) :
    iprop(Pipeline.ownSems0 (Ix := Unit) (Name := ℕ) (U := UU) (Lvl := ℕ) (Val := Elt F) (τ := τ) osem c ∗ unscopedSems0 c)
      = (bigSep Finset.univ fun k : Fin 34 => semVal (kcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep (Finset.univ.map (Fin.succEmb 33)) fun k : Fin 34 => semVal (kcell (c, k)) 0 := by
    rw [bigSep_map]; rfl
  rw [hu, ho, show (Finset.univ : Finset (Fin 34)) = insert 0 (Finset.univ.map (Fin.succEmb 33)) by decide, bigSep_ins (by decide)]
  exact equiv_iff.mp ⟨BI.sep_comm, BI.sep_comm⟩

/-- A device's semaphores at rest are its semaphores at zero. -/
theorem rest_zero (c : Dev nD) : (atRest c : sProp 𝕄) = bigSep Finset.univ fun k : Fin 34 => semVal (kcell (c, k)) 0 :=
  (over_device c fun g => semVal g 0).symm

/-! ## Semaphores are told apart -/

/-- The number of a semaphore. -/
def numOf : SemLoc sig → ℕ
  | .reg _ => 0
  | .dma q => q.val

theorem numOf_csem (k : Fin 34) : numOf (csem k) = k.val := by
  unfold csem
  split
  · rename_i h; exact h.symm
  · rfl

theorem kcell_injective : Function.Injective kcell := by
  rintro ⟨c, k⟩ ⟨c', k'⟩ h
  have h1 : c = c' := congrArg (fun g : GSem nD τ sig => g.1.1) h
  have h2 : k.val = k'.val := by rw [← numOf_csem k, ← numOf_csem k']; exact congrArg (fun g : GSem nD τ sig => numOf g.2) h
  rw [h1, Fin.ext h2]

def allCells : Finset (GSem nD τ sig) := Finset.univ.map ⟨kcell, kcell_injective⟩

/-! ## The tokens -/

/-- The tokens minted: for devices `c` and `i`, those of `c` for the barrier of `i`, for the send semaphore `i` of `c`, for the
    receive semaphore `c` of `i`, and for the copy semaphore of `i`. -/
def tokOf (x : Dev nD × Dev nD × Fin 4) : GSem nD τ sig × ℕ × Dev nD :=
  match x.2.2 with
  | 0 => (barCell x.2.1, 0, x.1)
  | 1 => (sendCell x.1 x.2.1, 0, x.1)
  | 2 => (recvCell x.2.1 x.1, 0, x.1)
  | 3 => (copyCell x.2.1, 0, x.1)

/-- The kind of a semaphore, and the device it and a token of it are minted for. -/
def kindOf (s : SemLoc sig) : Fin 4 := if numOf s = 0 then 0 else if numOf s = 1 then 3 else if numOf s < 18 then 1 else 2

theorem kind_tok (c i : Dev nD) (j : Fin 4) : kindOf (tokOf (c, i, j)).1.2 = j := by
  have hi : i.val < 16 := i.isLt
  have hc : c.val < 16 := c.isLt
  fin_cases j
  · rfl
  · show (if 2 + i.val = 0 then (0 : Fin 4) else if 2 + i.val = 1 then 3 else if 2 + i.val < 18 then 1 else 2) = 1
    rw [if_neg (by omega), if_neg (by omega), if_pos (by omega)]
  · show (if 18 + c.val = 0 then (0 : Fin 4) else if 18 + c.val = 1 then 3 else if 18 + c.val < 18 then 1 else 2) = 2
    rw [if_neg (by omega), if_neg (by omega), if_neg (by omega)]
  · rfl

theorem tokOf_injective : Function.Injective tokOf := by
  rintro ⟨c, i, j⟩ ⟨c', i', j'⟩ h
  have hj : j = j' := by rw [← kind_tok c i j, ← kind_tok c' i' j', h]
  subst hj
  have hc : c = c' := by
    have h' := congrArg (fun x : GSem nD τ sig × ℕ × Dev nD => x.2.2) h
    fin_cases j <;> exact h'
  subst hc
  have hd := congrArg (fun x : GSem nD τ sig × ℕ × Dev nD => x.1.1.1) h
  have hn := congrArg (fun x : GSem nD τ sig × ℕ × Dev nD => numOf x.1.2) h
  have hi : i = i' := by
    fin_cases j
    · exact hd
    · have hn' : 2 + i.val = 2 + i'.val := hn
      exact Fin.ext (by omega)
    · exact hd
    · exact hd
  rw [hi]

def allToks : Finset (GSem nD τ sig × ℕ × Dev nD) := Finset.univ.map ⟨tokOf, tokOf_injective⟩

/-- The tokens of device `c`. -/
def toks (c : Dev nD) : sProp (MT nD τ sig Unit (Elt F) ℕ UU ℕ) :=
  bigSep Finset.univ fun i : Dev nD =>
    iprop(dutyTok ER (barCell i) 0 c ∗ dutyTok ER (sendCell c i) 0 c ∗ dutyTok ER (recvCell i c) 0 c ∗ dutyTok ER (copyCell i) 0 c)

theorem over_kinds {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A token by its position in the list. -/
def tokAt (x : Dev nD × Dev nD × Fin 4) : sProp (MT nD τ sig Unit (Elt F) ℕ UU ℕ) := dutyTok ER (tokOf x).1 (tokOf x).2.1 (tokOf x).2.2

theorem toks_of (c : Dev nD) : bigSep Finset.univ (fun y : Dev nD × Fin 4 => tokAt (F := F) (c, y)) = toks c := by
  rw [bigSep_univ_prod]
  unfold toks
  refine bigSep_congr fun i _ => ?_
  rw [over_kinds]
  rfl

theorem toks_eq : bigSep allToks (fun x => (dutyTok ER x.1 x.2.1 x.2.2 : sProp 𝕄)) = bigSep Finset.univ fun c : Dev nD => toks c := by
  have h : bigSep allToks (fun x => (dutyTok ER x.1 x.2.1 x.2.2 : sProp 𝕄)) = bigSep Finset.univ (tokAt (F := F)) := by
    unfold allToks
    exact bigSep_map _
  rw [h, bigSep_univ_prod]
  exact bigSep_congr fun c _ => toks_of c

/-! ## The claims -/

theorem bar_inj {a b : Dev nD} (h : barCell a = barCell b) : a = b := congrArg (fun g : GSem nD τ sig => g.1.1) h
theorem recv_inj {c d a b : Dev nD} (h : recvCell a c = recvCell b d) : a = b ∧ c = d :=
  ⟨congrArg (fun g : GSem nD τ sig => g.1.1) h, Fin.ext (by
    have h' : 18 + c.val = 18 + d.val := congrArg (fun g : GSem nD τ sig => numOf g.2) h
    omega)⟩
theorem recv_ne_bar {c a b : Dev nD} : recvCell a c ≠ barCell b := fun h => by
  have h' : 18 + c.val = 0 := congrArg (fun g : GSem nD τ sig => numOf g.2) h
  omega

/-- A sum of tallies at one of the semaphores summed over, and at any other. -/
theorem sum_tally_at (s : Finset (Dev nD)) (cell : Dev nD → GSem nD τ sig) (hc : ∀ a b, cell a = cell b → a = b) (k : ℕ) (j : Dev nD) :
    (∑ i ∈ s, tallyAt (cell i) () k : CellTallies nD τ sig Unit) (cell j) () = if j ∈ s then k else 0 := by
  rw [Finset.sum_apply, Finsupp.finset_sum_apply, ← Finset.sum_ite_eq' s j fun _ => k]
  refine Finset.sum_congr rfl fun i _ => ?_
  rw [tallyAt_apply]
  by_cases h : i = j
  · subst h; rw [if_pos ⟨rfl, rfl⟩, if_pos rfl]
  · rw [if_neg fun h' => h (hc _ _ h'.1).symm, if_neg h]
theorem sum_tally_off (s : Finset (Dev nD)) (cell : Dev nD → GSem nD τ sig) (k : ℕ) (g : GSem nD τ sig) (h : ∀ i, g ≠ cell i) :
    (∑ i ∈ s, tallyAt (cell i) () k : CellTallies nD τ sig Unit) g () = 0 :=
  Nat.eq_zero_of_not_pos fun hp => (sum_tally_pos hp).elim h

/-- What device `d` owes the barrier of `c`, and the receive semaphore `i` of `c`. -/
theorem owed_bar (d c : Dev nD) : O₀ d (barCell c) () = if c < d then 1 else 0 := by
  unfold O₀ owedRecv owedBar
  rw [Pi.add_apply, Finsupp.add_apply, sum_tally_off _ _ _ _ fun i h => recv_ne_bar h.symm, Nat.zero_add, sum_tally_at _ _ (fun a b => bar_inj), ahead_zero]
  simp only [Finset.mem_filter, Finset.mem_univ, _root_.true_and]
theorem owed_recv (d c i : Dev nD) : O₀ d (recvCell c i) () = if d = i then (if i < c then N else 0) else 0 := by
  unfold O₀ owedRecv owedBar
  rw [Pi.add_apply, Finsupp.add_apply, sum_tally_off _ (fun i => barCell i) _ _ fun i h => recv_ne_bar h, Nat.add_zero]
  by_cases h : d = i
  · subst h
    rw [sum_tally_at _ (fun j => recvCell j d) (fun a b h => (recv_inj h).1), ahead_zero, if_pos rfl]
    simp only [Finset.mem_filter, Finset.mem_univ, _root_.true_and]
  · rw [if_neg h]
    exact sum_tally_off _ _ _ _ fun j hj => h (recv_inj hj).2.symm

/-- The claims on a device's barrier and on its receive semaphores. -/
theorem claim_bar (c : Dev nD) :
    tallyOn (barCell c) (launchCredit (Pipeline.owing O₀) 0 (barCell c)) = (tallyAt (barCell c) () (15 - c.val) : CellTallies nD τ sig Unit) := by
  unfold tallyAt; refine congrArg _ (Finsupp.ext fun u => ?_); cases u
  rw [Pipeline.launchCredit_owing, Finsupp.single_eq_same, Finset.sum_congr rfl fun d _ => owed_bar d c, ← Finset.card_filter, card_later]
theorem claim_recv (c i : Dev nD) (h : i < c) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ i fun _ => if i < c then N else 0, if_pos (Finset.mem_univ _), if_pos h]

/-- The receive semaphores as semaphores. -/
def recvLoc : Dev nD ↪ SemLoc sig := ⟨fun i => .dma (recvQ i), fun a b h => (recv_inj (congrArg (fun s => ((a : Thread nD τ), s)) h)).2⟩

theorem claims (c : Dev nD) :
    (Pipeline.launchCred O₀ c : sProp 𝕄)
      ⊢ iprop(cred (tallyAt (barCell c) () (15 - c.val)) ∗ bigSep (Finset.univ.filter (· < c)) fun i => cred (tallyAt (recvCell c i) () N)) := by
  unfold Pipeline.launchCred
  rw [bigSep_part (insert (SemLoc.reg barS) ((Finset.univ.filter (· < c)).map recvLoc)), bigSep_ins (by
    intro h
    obtain ⟨i, -, hi⟩ := Finset.mem_map.mp h
    exact recv_ne_bar (congrArg (fun s => ((c : Thread nD τ), s)) hi : recvCell c i = barCell c)), bigSep_map]
  refine sep_elim_left.trans (BIClass.sep_mono (BIBase.Entails.of_eq (congrArg cred (claim_bar c))) (bigSep_mono fun i hi => ?_))
  exact BIBase.Entails.of_eq (congrArg cred (claim_recv c i (Finset.mem_filter.mp hi).2))

end Cert.Scan

end
-- ==== Proof.Launch.lean ====
/-
# The launch

From the memory at launch to every device's start, the side conditions of the library's launch theorem, and the run of the
whole program: it ends, every device's result is what the body computes, its argument is unchanged, and every semaphore is
back at zero.
-/
module

public import proofs.«01_k».proof.Proof.Credits
public import Idealize.ShloMosaic.Lib.Pipeline.CollectiveSegs

@[expose] public section

set_option maxRecDepth 16384

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- The element the launch starts from: the pipeline library's part, and the schedule's. -/
def u₀ : UU := (initOf (Pipeline.cells cfgs cellOf_inj) (Pipeline.launchToks cfgs cellOf_inj), initOf allCells allToks)

/-- Where a device stands at its semaphores, and that they are in their first round. -/
def stands (c : Dev nD) : sProp (MT nD τ sig Unit (Elt F) ℕ UU ℕ) := bigSep Finset.univ fun k : Fin 34 => atPos ER (kcell (c, k)) 0 ∅ 0
def marks (c : Dev nD) : sProp (MT nD τ sig Unit (Elt F) ℕ UU ℕ) := bigSep Finset.univ fun k : Fin 34 => reached ER (kcell (c, k)) 0

/-- What the element deals each device. -/
def dealt (c : Dev nD) : sProp (MT nD τ sig Unit (Elt F) ℕ UU ℕ) :=
  iprop((bigSep Finset.univ fun k : Fin 34 => roundState ER (Rd m) (kcell (c, k)) 0) ∗ stands c ∗ marks c ∗ toks c)

theorem over_allCells (Φ : GSem nD τ sig → sProp 𝕄) :
    bigSep allCells Φ = bigSep Finset.univ fun c : Dev nD => bigSep Finset.univ fun k : Fin 34 => Φ (kcell (c, k)) := by
  unfold allCells; rw [bigSep_map, bigSep_univ_prod]; rfl

theorem deal : BI.own (ER (initOf allCells allToks)) ⊢ (|==> bigSep Finset.univ (dealt m) : sProp 𝕄) := by
  iintro HX
  imod (Rounds.fund ER (Rd m) allCells allToks) $$ HX with ⟨Hst, Hr, Hat, Htok⟩
  imodintro
  ihave Hst' := (Entails.of_eq (over_allCells fun g => roundState ER (Rd m) g 0)) $$ Hst
  ihave Hat' := (Entails.of_eq (over_allCells (F := F) fun g => atPos ER g 0 ∅ 0)) $$ Hat
  ihave Hr' := (Entails.of_eq (over_allCells (F := F) fun g => reached ER g 0)) $$ Hr
  ihave Htok' := (Entails.of_eq (toks_eq (F := F))) $$ Htok
  unfold dealt stands marks; simp only [bigSep_sep']
  isplitl [Hst']; · iexact Hst'
  isplitl [Hat']; · iexact Hat'
  isplitl [Hr'] <;> iassumption

/-! ## The semaphores put under the schedule -/

/-- The semaphores of all devices under the schedule, by their names, and in their first round. -/
def known (K : Dev nD × Fin 34 → ℕ) : sProp (MT nD τ sig Unit (Elt F) ℕ UU ℕ) :=
  iprop(bigSep Finset.univ (fun k => cellInv ER (Rd m) (K k) (kcell k)) ∗ bigSep Finset.univ fun k => reached ER (kcell k) 0)

instance known_persistent (K : Dev nD × Fin 34 → ℕ) : BI.Persistent (known (F := F) m K) := by unfold known; infer_instance

/-- What each device has then. -/
def ready (c : Dev nD) : sProp (MT nD τ sig Unit (Elt F) ℕ UU ℕ) := iprop(∃ K, known m K ∗ stands c ∗ toks c)

/-- One device's semaphores. -/
theorem schedule_one (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 34 => iprop(∃ κ : ℕ, cellInv ER (Rd m) κ (kcell (c, k)))) ∗ marks c ∗ stands c ∗ toks c) := by
  have hinv : iprop((bigSep Finset.univ fun k : Fin 34 => semVal (kcell (c, k)) 0) ∗ bigSep Finset.univ fun k : Fin 34 => roundState ER (Rd m) (kcell (c, k)) 0)
      ⊢ (|={Set.univ}=> bigSep Finset.univ fun k : Fin 34 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold dealt
  iintro ⟨Hos, Hus, Hst, Hat, Hm, Htok⟩
  ihave Hv := (Entails.of_eq (sems_zero (F := F) c)) $$ [Hos Hus]
  · isplitl [Hos] <;> iassumption
  imod hinv $$ [Hv Hst] with Hinv
  · isplitl [Hv] <;> iassumption
  imodintro
  isplitl [Hinv]; · iexact Hinv
  isplitl [Hm]; · iexact Hm
  isplitl [Hat] <;> iassumption

/-- The names of all devices' semaphores known to every device. -/
theorem share_names :
    (bigSep Finset.univ fun c : Dev nD => iprop((bigSep Finset.univ fun k : Fin 34 => iprop(∃ κ : ℕ, cellInv ER (Rd m) κ (kcell (c, k)))) ∗ marks c ∗ stands c ∗ toks c) : sProp 𝕄)
      ⊢ bigSep Finset.univ (ready m) := by
  unfold marks
  rw [bigSep_sep', bigSep_sep', ← bigSep_univ_prod (fun ck : Dev nD × Fin 34 => iprop(∃ κ : ℕ, cellInv ER (Rd m) κ (kcell ck))),
    ← bigSep_univ_prod (fun ck : Dev nD × Fin 34 => (reached ER (kcell ck) 0 : sProp 𝕄))]
  iintro ⟨HI, #HR, Hrest⟩
  ihave HK := (BI.bigSep_exists_pi Finset.univ (fun (ck : Dev nD × Fin 34) (κ : ℕ) => (cellInv ER (Rd m) κ (kcell ck) : sProp 𝕄))) $$ HI
  icases HK with ⟨%K, #HI⟩
  have h : ∀ c ∈ (Finset.univ : Finset (Dev nD)), iprop(known m K ∗ stands c ∗ toks c) ⊢ ready m c := fun c _ => by
    unfold ready
    iintro H
    iexists K
    iexact H
  iapply (bigSep_with_persistent h)
  isplitr
  · unfold known
    isplitl; · iexact HI
    iexact HR
  iexact Hrest

/-- All devices' semaphores at once. -/
theorem schedule_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ready m) :=
  ((bigSep_mono fun c _ => schedule_one m c).trans (bigSep_fupd _ _)).trans (BI.fupd_mono (share_names m))

/-! ## The start of a device -/

/-- A device's tokens: for the signals, for the transfers and for the copy; the others are of no use. -/
theorem toks_split (c : Dev nD) : (toks c : sProp 𝕄) ⊢ iprop(sigToks c ∗ sendToks c ∗ dutyTok ER (copyCell c) 0 c) := by
  unfold toks sigToks sendToks
  rw [bigSep_sep', bigSep_sep', bigSep_sep', bigSep_univ_by (· < c), bigSep_univ_by (c < ·) fun i : Dev nD => dutyTok ER (sendCell c i) 0 c,
    bigSep_univ_by (c < ·) fun i : Dev nD => dutyTok ER (recvCell i c) 0 c, bigSep_univ_at _ c, bigSep_pair]
  iintro ⟨⟨Hb, -⟩, ⟨Hs, -⟩, ⟨Hr, -⟩, Hc, -⟩
  isplitl [Hb]; · iexact Hb
  isplitl [Hs Hr]
  · isplitl [Hs] <;> iassumption
  iexact Hc

/-- Where a device stands, semaphore by semaphore. -/
theorem stands_split (c : Dev nD) :
    (stands c : sProp 𝕄) ⊢ iprop(atPos ER (barCell c) 0 ∅ 0 ∗ atPos ER (copyCell c) 0 ∅ 0 ∗ lefts c
      ∗ (bigSep (Finset.univ.filter (· < c)) fun i => atPos ER (recvCell c i) 0 ∅ 0) ∗ idle c) := by
  unfold stands lefts idle
  rw [over_device c fun g => atPos ER g 0 ∅ 0, bigSep_univ_by (c < ·), bigSep_univ_by (· < c) fun i : Dev nD => atPos ER (recvCell c i) 0 ∅ 0]
  iintro ⟨Hb, Hc, ⟨Hs, Hs'⟩, ⟨Hr, Hr'⟩⟩
  isplitl [Hb]; · iexact Hb
  isplitl [Hc]; · iexact Hc
  isplitl [Hs]; · iexact Hs
  isplitl [Hr]; · iexact Hr
  isplitl [Hs'] <;> iassumption

/-- The argument as the launch hands it over. -/
theorem arg_whole (c : Dev nD) : (((c : Thread nD τ).loc main_arg0 ↦{fullShare} m ((c : Thread nD τ).loc main_arg0)) : sProp 𝕄) = argPts m c := by
  unfold argPts; rw [show (argM : Memref sig .tc .hbm S256x256 .f32).view.set = Finset.univ from View.set_whole _]; rfl

/-- The start of a device from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq, arg_whole]
  unfold ready known
  iintro ⟨Ha, Hlev, Hcr, -, ⟨%K, ⟨HI, HR⟩, Hst, Htk⟩⟩
  ihave Hc := (claims (F := F) c) $$ Hcr
  icases Hc with ⟨Hcb, Hcrv⟩
  ihave Ht := (toks_split (F := F) c) $$ Htk
  icases Ht with ⟨Hsig, Hsend, Hcopy⟩
  ihave Hs := (stands_split (F := F) c) $$ Hst
  icases Hs with ⟨Hpb, Hpc, Hpl, Hpr, Hidle⟩
  imodintro
  unfold start given
  isplitl
  · iexists K
    isplitl [HI HR Hlev]
    · unfold ctx
      isplitl [HI]; · iexact HI
      isplitl [HR] <;> iassumption
    isplitl [Ha]; · iexact Ha
    isplitl [Hcopy]; · iexact Hcopy
    isplitl [Hpc]; · iexact Hpc
    isplitl [Hcb Hpb]
    · unfold barIn
      isplitl [Hcb] <;> iassumption
    isplitl [Hsig]; · iexact Hsig
    isplitl [Hsend]; · iexact Hsend
    isplitl [Hcrv Hpr]
    · unfold recvs recvIn
      rw [bigSep_sep']
      isplitl [Hcrv] <;> iassumption
    isplitl [Hpl] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs] <;> iassumption

/-- What a device gives back. -/
theorem after_exit (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = after m c from rfl, scopedRest0_eq]
  unfold after scratch
  rw [rest_zero, ← sems_zero]
  iintro ⟨Ha, ⟨Ho, Hu⟩, Hr⟩
  isplitl [Ha Hu]
  · isplitl [Hu] <;> iassumption
  isplitl [Ho] <;> iassumption

theorem share_full (c : Dev nD) (w : Fin cfg0.W) : (dats m ρ 0 c).share w = fullShare := by unfold Dat.share; split <;> rfl

/-- The staging buffer's semaphore stands low. -/
theorem stage_waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- The argument and the semaphores read off at the end. -/
theorem read_end (c : Dev nD) (s' : Phys nD τ sig (Elt F)) :
    iprop((unscopedSems0 c ∗ argPts m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ (SI s' : sProp 𝕄)) := by
  have ha := pointsTo_read_all (Ix := Unit) (Name := ℕ) (U := UU) (Lvl := ℕ) (Finset.univ : Finset (Fin 1)) (fun _ => (c : Thread nD τ).loc main_arg0)
    (fun _ => m ((c : Thread nD τ).loc main_arg0)) s'
  rw [bigSep_W0, arg_whole] at ha
  have hu := Pipeline.unscopedSems0_read (Ix := Unit) (Name := ℕ) (U := UU) (Lvl := ℕ) (X := unscopedSems0 c) (c := c) fupd_intro s'
  iintro ⟨⟨Hu, Ha⟩, -, HSI⟩
  ihave H := ha $$ [Ha HSI]
  · isplitl [Ha] <;> iassumption
  icases H with ⟨%h, HSI⟩
  imod hu $$ [Hu HSI] with ⟨%h', HSI⟩
  · isplitl [Hu] <;> iassumption
  imodintro
  isplitr
  · ipureintro; exact ⟨h', h 0 (Finset.mem_univ _)⟩
  iexact HSI

/-! ## The run -/

/-- What every run ends with. -/
def Final (r : PUnit × MemSt nD τ sig (Elt F)) : Prop :=
  (∀ c : Dev nD, r.2.mem ((cfg0.win (0 : Fin 1)).arr.view.loc (c : Thread nD τ)) = (dats m ρ 0 c).arrAt (0 : Fin 1) cfg0.N
    ∧ r.2.mem ((c : Thread nD τ).loc main_arg0) = m ((c : Thread nD τ).loc main_arg0)) ∧ r.2.sem = fun _ => 0

/-- THE RUN: from any memory with all semaphores at zero the sixteen devices' programs end, and every run ends in `Final`. -/
theorem run_final : θ_run defs (onTc (τ := τ) (main (F := F))) (atLaunch m ρ) (Final m ρ) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := schedule_all m)
    (hA := fun _ _ => rfl) (hpf := fun _ k => k.elim0)
    (X := start m) (Y := fun c => iprop(unscopedSems0 c ∗ argPts m c)) (Z := fun _ => iprop(emp))
    (hX := start_intro m ρ) (hin := before_intro m ρ) (hout := after_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_end m)
    (hQ := fun _ h hs => ⟨fun c => ⟨(h c).1 0, (h c).2.2.2⟩, sem_eq_zero hs fun c => (h c).2.2.1⟩)

end Cert.Scan

end
-- ==== Proof.Result.lean ====
/- What the sixteen devices leave: each device's result array is its running sum, its argument and its
   semaphores as they were. -/
module

public import proofs.«01_k».proof.Proof.Launch
public import Idealize.ShloMosaic.Lib.Pipeline.Value

@[expose] public section

set_option maxRecDepth 16384

noncomputable section

namespace Cert.Scan

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The one block starts at row 0 and column 0 and has all 256 rows and columns. -/
theorem block_place : win0_0.index t0_0 0 * win0_0.size 0 = 0 ∧ win0_0.xsize (grid0.coords t0_0) 0 = 256
    ∧ win0_0.index t0_0 1 * win0_0.size 1 = 0 ∧ win0_0.xsize (grid0.coords t0_0) 1 = 256 := by decide +kernel

/-- The one block written back is the whole result array. -/
theorem written_back (c : Dev nD) (t : Fin cfg0.N) :
    (dats m ρ 0 c).flushed (0 : Fin 1) t = ((cfg0.win (0 : Fin 1)).blk t).view.read (Elt F) (outAt m c) := by
  obtain rfl := fin_N0 t
  have h : (dats m ρ 0 c).after (0 : Fin 1) t0_0 = outAt m c := rfl
  unfold Pipeline.Dat.flushed
  rw [h]
  funext j
  show outAt m c _ = outAt m c ((win0_0.rect t0_0).emb j)
  refine congrArg (outAt m c) (funext fun a => Fin.ext ?_)
  rw [Rect.emb_apply]
  match a with
  | ⟨0, _⟩ => show (j 0 : Nat) = win0_0.index t0_0 0 * win0_0.size 0 + 1 * (j 0 : Nat); rw [block_place.1]; omega
  | ⟨1, _⟩ => show (j 1 : Nat) = win0_0.index t0_0 1 * win0_0.size 1 + 1 * (j 1 : Nat); rw [block_place.2.2.1]; omega

/-- Every index of the result array lies in it. -/
theorem all_covered (i : S256x256.Idx) :
    ∃ t : Fin cfg0.N, (cfg0.win (0 : Fin 1)).flush t = true ∧ i ∈ ((cfg0.win (0 : Fin 1)).blk t).view.set := by
  refine ⟨t0_0, flush0_0 _, ?_⟩
  show i ∈ ((View.whole main_v1).slice (win0_0.rect t0_0)).set
  rw [View.set_slice_whole, Rect.mem_set_unit]
  have h0 : (i 0 : Nat) < 256 := (i 0).isLt
  have h1 : (i 1 : Nat) < 256 := (i 1).isLt
  intro a
  match a with
  | ⟨0, _⟩ =>
    show win0_0.index t0_0 0 * win0_0.size 0 ≤ (i 0 : Nat) ∧ (i 0 : Nat) < win0_0.index t0_0 0 * win0_0.size 0 + win0_0.xsize (grid0.coords t0_0) 0
    rw [block_place.1, block_place.2.1]; omega
  | ⟨1, _⟩ =>
    show win0_0.index t0_0 1 * win0_0.size 1 ≤ (i 1 : Nat) ∧ (i 1 : Nat) < win0_0.index t0_0 1 * win0_0.size 1 + win0_0.xsize (grid0.coords t0_0) 1
    rw [block_place.2.2.1, block_place.2.2.2]; omega

/-- At the end the result array of device `c` is its running sum. -/
theorem array_end (c : Dev nD) : (dats m ρ 0 c).arrAt (0 : Fin 1) cfg0.N = outAt m c :=
  (dats m ρ 0 c).arrAt_eq_of_cover (0 : Fin 1) (outAt m c) (fun t _ => written_back m ρ c t) all_covered

/-- Every run ends with each device's result array at its running sum, its argument unchanged and every semaphore
    at zero. -/
theorem run_out :
    θ_run defs (onTc (τ := τ) (main (F := F))) (atLaunch m ρ) fun r =>
      (∀ c : Dev nD, r.2.mem ((c : Thread nD τ).loc main_v1) = outAt m c
        ∧ r.2.mem ((c : Thread nD τ).loc main_arg0) = m ((c : Thread nD τ).loc main_arg0))
      ∧ r.2.sem = fun _ => 0 :=
  (θ_run defs _ _).mono (fun r h => ⟨fun c => ⟨(h.1 c).1.trans (array_end m ρ c), (h.1 c).2⟩, h.2⟩) (run_final m ρ)

end Cert.Scan

end
-- ==== Proof.Frames.lean ====
/- The programs keep their arguments and leave every semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result

@[expose] public section

set_option maxRecDepth 16384

noncomputable section

namespace Cert.Scan

open Idealize.ShloMosaic Idealize.SL.Sem

/-- At any floats the kernel keeps its argument and leaves its semaphores at zero. -/
theorem kept {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (run_out m ρ)

/-- The kernel printed for the machine's floats and the one printed for the extended reals have the same text: the bodies agree, -/
theorem same_bodies {F : FTy → Type} [FloatOps F] : Cert.Kernel.defs₀ (F := F) = Cert.KernelIdeal.defs₀ := by
  refine congrArg Defs.onTc (funext fun l => funext fun x => ?_)
  match l, x with
  | 0, (t, s) => rfl

/-- and so do the procedures. -/
theorem same_defs {F : FTy → Type} [FloatOps F] : Cert.Kernel.defs (F := F) = Cert.KernelIdeal.defs :=
  congrArg (Pipeline.defs (Cert.Kernel.pcfgs (F := F))) same_bodies

/-- The kernel at the machine's floats. -/
theorem frame_kernel : Cert.quiescent_Kernel := fun m ρ _ => by
  rw [same_defs]
  exact kept (F := Bits) m ρ

/-- The kernel over the extended reals. -/
theorem frame_ideal : Cert.quiescent_KernelIdeal := fun m ρ _ => kept (F := Ideal) m ρ

/-- The reference over the extended reals; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Scan

end
-- ==== Proof.Block.lean ====
/-
# What one device computes, over the extended reals

The column sums, the prefix sums of a block by a product with the lower triangle of ones, the sum of the rows of the earlier
devices, and the result: at row `r` and column `k` the block's rows up to `r` plus all rows of the earlier blocks.
-/
module

public import proofs.«01_k».proof.Proof.Arrays
public import Idealize.ShloMosaic.Lib.MatmulPlain
public import Idealize.ShloMosaic.Lib.ValueIdx
public import Idealize.ShloMosaic.PureOps.Ideal.Laws
public import Idealize.ShloMosaic.Lib.ValueLayout
public import Idealize.ShloMosaic.Lib.WordCmp
public import Idealize.ShloMosaic.Lib.Pointwise.Reduce
public import Idealize.ShloMosaic.Lib.Pointwise.Reshape

@[expose] public section

set_option maxRecDepth 16384

noncomputable section

namespace Cert.Scan

open Cert.KernelIdeal Cert.KernelIdeal.Gen
open Idealize.ShloMosaic hiding ix2 ix1
open Idealize.ShloMosaic.TcCoe Idealize.ShloMosaic.ValueIdx
open scoped BigOperators

/-- The column sums of a block. -/
theorem total_apply (x : Vec Ideal S256x256 .f32) (k : Fin 256) :
    k0_pay1 (F := Ideal) x (ix2 (0 : Fin 1) k) = ∑ q : Fin 256, x (ix2 q k) := by
  unfold k0_pay1
  dsimp only
  rw [shapeCast_id, shapeCast_a_1a_apply]
  exact Ideal.reduceAdd_r2_a0 reduces_S256x256_S256 x (ix1 k)

/-- An entry of the lower triangle of ones. -/
theorem tri_entry (r q : Fin 256) :
    (FloatOps.sitofp .f32 ((IntOp.cmpi .sge (BitVec.ofNat 32 r.val) (BitVec.ofNat 32 q.val)).setWidth 32) : Ideal .f32)
      = if q ≤ r then 1 else 0 := by
  have h : (IntOp.cmpi .sge (BitVec.ofNat 32 r.val) (BitVec.ofNat 32 q.val)).setWidth 32 = if q ≤ r then 1#32 else 0#32 := by
    rw [Idealize.ShloMosaic.WordCmp.cmpi_sge_ofNat (by omega) (by omega)]
    by_cases hq : q ≤ r
    · rw [if_pos hq, decide_eq_true (Fin.le_def.mp hq)]; rfl
    · rw [if_neg hq, decide_eq_false fun h => hq (Fin.le_def.mpr h)]; rfl
  rw [h]
  show ((((if q ≤ r then 1#32 else 0#32 : BitVec 32).toInt : ℝ)) : EReal) = _
  split <;> simp

/-- The product with the lower triangle of ones takes prefix sums down the columns. -/
theorem prefix_apply (x : Vec Ideal S256x256 .f32) (r k : Fin 256) :
    k0_pay2 (F := Ideal) x (ix2 r k) = ∑ q : Fin 256, if q ≤ r then x (ix2 q k) else 0 := by
  unfold k0_pay2
  dsimp only
  refine (Ideal.matmul_plain_apply (M := 256) (K := 256) (N := 256) none _ x _ r k).trans ?_
  rw [constant_apply, Ideal.ofBits_zero_f32, zero_add]
  refine Finset.sum_congr rfl fun q _ => ?_
  have e : ∀ n : Fin 256, 0 * 256 + n.val = n.val := fun n => by omega
  have h := tri_entry r q
  rw [← e r, ← e q] at h
  refine (congrArg (· * x (ix2 q k)) h).trans ?_
  split
  · exact one_mul _
  · exact zero_mul _

/-- The masked sum of the sixteen rows is the sum of the rows before the device's own. -/
theorem carry_apply (c : Dev nD) (f : Vec Ideal S16x256 .f32) (k : Fin 256) :
    k0_pay3 (F := Ideal) (numW c) f (ix1 k) = ∑ i : Fin 16, if i < c then f (ix2 i k) else 0 := by
  unfold k0_pay3
  dsimp only
  refine (Ideal.reduceAdd_r2_a0 reduces_S16x256_S256 _ (ix1 k)).trans ?_
  refine Finset.sum_congr rfl fun i _ => ?_
  have hm := mask_iff c i
  have e : i.val = 0 * 16 + i.val := by omega
  rw [e] at hm
  show (if Scalar.cmpi .slt (BitVec.ofNat 32 (0 * 16 + i.val)) (numW c) = 1#1 then f (ix2 i k) else Ideal.ofBits .f32 0x00000000#32) = _
  rw [Ideal.ofBits_zero_f32]
  exact if_congr hm rfl rfl

/-- The last step adds a row to every row. -/
theorem combine_apply (p : FVec Ideal S256x256 .f32) (w : FVec Ideal S256 .f32) (r k : Fin 256) :
    k0_pay4 (F := Ideal) p w (ix2 r k) = p (ix2 r k) + w (ix1 k) := by
  unfold k0_pay4
  rw [addf_apply, broadcastTo_1b_ab_apply, shapeCast_a_1a_apply]

variable (m : (ℓ : Loc nD τ sig) → Buf (Elt Ideal) ℓ)

/-- Row `i` of the sixteen rows holds the column sums of device `i`. -/
theorem comm_apply (i : Dev nD) (k : Fin 256) : commAt m (ix2 i k) = ∑ q : Fin 256, xAt m i (ix2 q k) := by
  have h : colOf (ix2 i k) = ix2 (0 : Fin 1) k := by
    funext a
    match a with
    | ⟨0, _⟩ => rfl
    | ⟨1, _⟩ => rfl
  show totAt m i (colOf (ix2 i k)) = _
  rw [h]
  exact total_apply (xAt m i) k

/-- A device's result at row `r` and column `k`. -/
theorem out_apply (c : Dev nD) (r k : Fin 256) :
    outAt m c (ix2 r k) = (∑ q : Fin 256, if q ≤ r then xAt m c (ix2 q k) else 0)
      + ∑ i : Fin 16, if i < c then ∑ q : Fin 256, xAt m i (ix2 q k) else 0 := by
  unfold outAt
  rw [combine_apply, prefix_apply, carry_apply]
  refine congrArg _ (Finset.sum_congr rfl fun i _ => ?_)
  rw [comm_apply]

end Cert.Scan

end
-- ==== Proof.Sums.lean ====
/-
# Sums of prefixes

Two facts about finite sums in a commutative monoid: a prefix of 16 blocks of 256 rows is the blocks before the last one
and a prefix of that one, and a window that slides in from before the first row sums a prefix.
-/
module

public import Mathlib.Algebra.BigOperators.Fin
public import Mathlib.Logic.Equiv.Fin.Basic

@[expose] public section

namespace Cert.Scan

open scoped BigOperators

variable {M : Type*} [AddCommMonoid M]

/-- Row `q` of block `i`, counted from the first block. -/
def rowAt (i : Fin 16) (q : Fin 256) : Fin 4096 := ⟨i.val * 256 + q.val, by omega⟩

/-- A sum over all rows goes block by block. -/
theorem sum_blocks (f : Fin 4096 → M) : ∑ Q, f Q = ∑ i : Fin 16, ∑ q : Fin 256, f (rowAt i q) := by
  rw [← Equiv.sum_comp (finProdFinEquiv (m := 16) (n := 256)) f, Fintype.sum_prod_type]
  refine Finset.sum_congr rfl fun i _ => Finset.sum_congr rfl fun q _ => congrArg f (Fin.ext ?_)
  show q.val + 256 * i.val = i.val * 256 + q.val
  omega

/-- The rows up to row `r` of block `c` are the rows of block `c` up to `r` and all rows of the blocks before it. -/
theorem sum_prefix (f : Fin 4096 → M) (c : Fin 16) (r : Fin 256) :
    (∑ Q : Fin 4096, if Q ≤ rowAt c r then f Q else 0)
      = (∑ q : Fin 256, if q ≤ r then f (rowAt c q) else 0) + ∑ i : Fin 16, if i < c then ∑ q : Fin 256, f (rowAt i q) else 0 := by
  have h (i : Fin 16) : (∑ q : Fin 256, if rowAt i q ≤ rowAt c r then f (rowAt i q) else 0)
      = (if i = c then ∑ q : Fin 256, if q ≤ r then f (rowAt c q) else 0 else 0)
        + if i < c then ∑ q : Fin 256, f (rowAt i q) else 0 := by
    have hle (q : Fin 256) : rowAt i q ≤ rowAt c r ↔ i.val * 256 + q.val ≤ c.val * 256 + r.val := Iff.rfl
    rcases lt_trichotomy i c with hi | hi | hi
    · rw [if_neg hi.ne, if_pos hi, zero_add]
      refine Finset.sum_congr rfl fun q _ => if_pos ?_
      rw [hle]; have : i.val < c.val := hi; omega
    · subst hi
      rw [if_pos rfl, if_neg (lt_irrefl _), add_zero]
      refine Finset.sum_congr rfl fun q _ => if_congr ?_ rfl rfl
      rw [hle]; exact ⟨fun h => Fin.le_def.mpr (by omega), fun h => by have := Fin.le_def.mp h; omega⟩
    · rw [if_neg hi.ne', if_neg hi.not_gt, add_zero]
      refine Finset.sum_eq_zero fun q _ => if_neg ?_
      rw [hle]; have : c.val < i.val := hi; omega
  rw [sum_blocks]
  simp only [h, Finset.sum_add_distrib, Finset.sum_ite_eq', Finset.mem_univ, if_true]

/-- A window of 4096 positions that ends at row `R`, the positions before the first row counting nothing, sums the rows up to `R`. -/
theorem sum_window (f : Fin 4096 → M) (R : Fin 4096) (g : Fin 4096 → M)
    (hin : ∀ (a : Fin 4096) (Q : Fin 4096), R.val + a.val = 4095 + Q.val → g a = f Q)
    (hout : ∀ a : Fin 4096, R.val + a.val < 4095 → g a = 0) :
    ∑ a, g a = ∑ Q : Fin 4096, if Q ≤ R then f Q else 0 := by
  rw [← Finset.sum_filter, ← Finset.sum_filter_add_sum_filter_not Finset.univ (fun a : Fin 4096 => 4095 ≤ R.val + a.val) g,
    Finset.sum_eq_zero (s := Finset.univ.filter fun a : Fin 4096 => ¬4095 ≤ R.val + a.val)
      (fun a ha => hout a (by have := (Finset.mem_filter.mp ha).2; omega)), add_zero]
  refine Finset.sum_bij' (fun a ha => ⟨R.val + a.val - 4095, by omega⟩) (fun Q hQ => ⟨4095 + Q.val - R.val, ?_⟩) ?_ ?_ ?_ ?_ ?_
  · have := Fin.le_def.mp (Finset.mem_filter.mp hQ).2; omega
  · intro a ha
    exact Finset.mem_filter.mpr ⟨Finset.mem_univ _, Fin.le_def.mpr (by show R.val + a.val - 4095 ≤ R.val; omega)⟩
  · intro Q hQ
    have := Fin.le_def.mp (Finset.mem_filter.mp hQ).2
    exact Finset.mem_filter.mpr ⟨Finset.mem_univ _, by show 4095 ≤ R.val + (4095 + Q.val - R.val); omega⟩
  · intro a ha
    have := (Finset.mem_filter.mp ha).2
    exact Fin.ext (by show 4095 + (R.val + a.val - 4095) - R.val = a.val; omega)
  · intro Q hQ
    have := Fin.le_def.mp (Finset.mem_filter.mp hQ).2
    exact Fin.ext (by show R.val + (4095 + Q.val - R.val) - 4095 = Q.val; omega)
  · intro a ha
    have := (Finset.mem_filter.mp ha).2
    exact hin a _ (by show R.val + a.val = 4095 + (R.val + a.val - 4095); omega)

/-- A left fold that adds one term per position is the start plus the sum of the terms. -/
theorem fold_sum {n : ℕ} (g : Fin n → M) (v : M) : (List.finRange n).foldl (fun r i => r + g i) v = v + ∑ i, g i := by
  rw [Fin.sum_univ_def]
  induction List.finRange n generalizing v with
  | nil => simp
  | cons a l ih => rw [List.foldl_cons, ih, List.map_cons, List.sum_cons, add_assoc]

end Cert.Scan
-- ==== Proof.Reference.lean ====
/-
# What the reference computes, over the extended reals

The cumulative sum down the columns of the whole array: at row `R` the sum of the rows up to `R`.
-/
module

public import proofs.«01_k».proof.Proof.Sums
public import proofs.«01_k».proof.Proof.Gen.ReferenceIdeal
public import Idealize.ShloMosaic.Lib.ValueIdx
public import Idealize.ShloMosaic.PureOps.Ideal.Laws

@[expose] public section

set_option maxRecDepth 16384

noncomputable section

namespace Cert.Scan

open Cert.ReferenceIdeal Cert.ReferenceIdeal.Gen
open Idealize.ShloMosaic
open Idealize.ShloMosaic.ValueIdx
open scoped BigOperators

/-- The reference's result. -/
def cumAt (x : FVec Ideal S4096x256 .f32) : FVec Ideal S4096x256 .f32 :=
  Host.reduceWindowAdd ![4096, 1] ![1, 1] ![4095, 0] ![0, 0] x (broadcastInDim S_ ![] bcast_S_S_ (constant S_ .f32 0x00000000#32))
    reduceWindows_S4096x256_S4096x256_w4096s1p4095_0_w1s1p0_0 h_S_

/-- The reference at row `R` and column `k`: the sum of the rows up to `R`. -/
theorem cum_apply (x : FVec Ideal S4096x256 .f32) (R : Fin 4096) (k : Fin 256) :
    cumAt x (ix2 R k) = ∑ Q : Fin 4096, if Q ≤ R then x (ix2 Q k) else 0 := by
  have z : (broadcastInDim S_ ![] bcast_S_S_ (constant (F := Ideal) S_ .f32 0x00000000#32)) (Shape.Idx.first h_S_) = (0 : EReal) :=
    Ideal.ofBits_zero_f32
  unfold cumAt Host.reduceWindowAdd
  rw [z]
  show Ideal.hostReduceWindowAdd _ _ _ _ _ x 0 _ = _
  unfold Ideal.hostReduceWindowAdd Host.reduceWindow
  dsimp only
  rw [fold_sum, zero_add]
  rw [← Equiv.sum_comp (Shape.rowMajor ⟨2, ![4096, 1]⟩)]
  simp only [Equiv.symm_apply_apply]
  rw [sum_idx2]
  simp only [Fin.sum_univ_one]
  refine sum_window (fun Q => x (ix2 Q k)) R _ (fun a Q h => ?_) (fun a h => ?_)
  · rw [dif_pos fun b => match b with
      | ⟨0, _⟩ => ⟨by show 4095 ≤ R.val * 1 + a.val; omega, by show R.val * 1 + a.val - 4095 < 4096; omega⟩
      | ⟨1, _⟩ => ⟨by show 0 ≤ k.val * 1 + 0; omega, by show k.val * 1 + 0 - 0 < 256; omega⟩]
    refine congrArg x (funext fun b => Fin.ext ?_)
    match b with
    | ⟨0, _⟩ => show R.val * 1 + a.val - 4095 = Q.val; omega
    | ⟨1, _⟩ => show k.val * 1 + 0 - 0 = k.val; omega
  · refine dif_neg fun hin => ?_
    have h0 : 4095 ≤ R.val * 1 + a.val := (hin 0).1
    omega

end Cert.Scan

end
-- ==== Proof.Equation.lean ====
/-
# The kernel's result is its block of the reference's

With the whole array cut into sixteen blocks of rows, the sum that device `c` leaves at row `r` is the cumulative sum of the
whole array at row `256 c + r`; from it the value claim.
-/
module

public import proofs.«01_k».proof.Defs
public import proofs.«01_k».proof.Proof.Block
public import proofs.«01_k».proof.Proof.Reference
public import proofs.«01_k».proof.Proof.Result
public import proofs.«01_k».proof.Proof.Gen.ReferenceIdeal.Run
public import Idealize.ShloMosaic.Lib.Layout

@[expose] public section

set_option maxRecDepth 16384

noncomputable section

namespace Cert.Scan

open Idealize.ShloMosaic hiding ix2 ix1
open Idealize.ShloMosaic.ValueIdx Idealize.SL.Sem
open scoped BigOperators

/-- Row `r` of block `c` of the whole array is the array's row `256 c + r`. -/
theorem block_row (X : FVec Ideal ⟨2, ![4096, 256]⟩ .f32) (c : Fin 16) (r k : Fin 256) :
    Layout.block ⟨2, ![256, 256]⟩ ⟨2, ![4096, 256]⟩ 0 16 c X (by decide) (ix2 r k) = X (ix2 (rowAt c r) k) := by
  refine congrArg X (funext fun a => Fin.ext ?_)
  match a with
  | ⟨0, _⟩ => rfl
  | ⟨1, _⟩ => rfl

/-- If every device's argument is its block of `X`, every device's result is its block of the cumulative sum of `X`. -/
theorem out_block (m : (ℓ : Loc Cert.KernelIdeal.nD Cert.KernelIdeal.τ Cert.KernelIdeal.sig) → Buf (Elt Ideal) ℓ)
    (X : FVec Ideal ⟨2, ![4096, 256]⟩ .f32)
    (hX : ∀ c, xAt m c = Layout.block ⟨2, ![256, 256]⟩ ⟨2, ![4096, 256]⟩ 0 16 c X (by decide)) (c : Fin 16) :
    outAt m c = Layout.block ⟨2, ![256, 256]⟩ ⟨2, ![4096, 256]⟩ 0 16 c (cumAt X) (by decide) := by
  have hx (i : Fin 16) (q k : Fin 256) : xAt m i (ix2 q k) = X (ix2 (rowAt i q) k) := by rw [hX i, block_row]
  have h (r k : Fin 256) : outAt m c (ix2 r k)
      = Layout.block ⟨2, ![256, 256]⟩ ⟨2, ![4096, 256]⟩ 0 16 c (cumAt X) (by decide) (ix2 r k) := by
    rw [block_row, cum_apply, sum_prefix (fun Q => X (ix2 Q k)), out_apply]
    simp only [hx]
  refine funext fun j => ?_
  rw [ValueIdx.eq_ix2 (n0 := 256) (n1 := 256) j]
  exact h (j 0) (j 1)

/-- The value claim: device `c`'s result is block `c` of the reference's. -/
theorem value : Cert.algebraic_KernelIdeal_ReferenceIdeal := fun m g m' g' _ hin =>
  ⟨cumAt (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (out_block m _ hin c), (h.1 c).2⟩) (run_out (F := Ideal) m g),
    (θ_run Cert.ReferenceIdeal.defs _ _).mono (fun _ h => h 0) (Cert.ReferenceIdeal.Value.run (F := Ideal) m' g')⟩

end Cert.Scan

end
-- ==== Proof.lean ====
/-
# The certificate

The claims about the distributed prefix sum, from the modules beside this one: the two printed kernels and the reference end
with their arguments and semaphores as they were, and over the extended reals every device's result is its block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The stated claims all hold. -/
theorem claim : Cert.Claim :=
  ⟨Cert.Kernel.Gen.facts, Cert.KernelIdeal.Gen.facts, Cert.ReferenceIdeal.Gen.facts,
    Cert.Scan.frame_kernel, Cert.Scan.frame_ideal, Cert.Scan.frame_reference, trivial, Cert.Scan.value⟩

end Cert.Proof

end
